-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "sm_log2e" .f32 0x3E0293EE#32 (((Real.sqrt 128)⁻¹ * (Real.log 2)⁻¹ : ℝ) : EReal)

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S8x2048x8192 : Shape := ⟨3, ![8, 2048, 8192]⟩
abbrev S_ : Shape := ⟨0, ![]⟩

class Facts : Prop where
  bitsLt_bf16_f32 : FTy.bits .bf16 < FTy.bits .f32
  bcast_S_S8x2048x8192 : S_.BroadcastsInDim S8x2048x8192 (![] : Fin 0 → Fin S8x2048x8192.rank)
  reducesTo_S8x2048x8192_S_d0_1_2 : S8x2048x8192.ReducesTo [0, 1, 2] S_
  h_S_ : 0 < S_.numel

variable [Facts]

def fn {F : FTy → Type} [FloatOps F] (main_arg0 : FVec F S8x2048x8192 .bf16) (main_arg1 : FVec F S8x2048x8192 .bf16) (main_arg2 : FVec F S8x2048x8192 .bf16) : IVec S_ 1 :=
  let main_v0 : FVec F S8x2048x8192 .f32 := (extf .f32 · bitsLt_bf16_f32) main_arg0
  let main_v1 : FVec F S8x2048x8192 .f32 := Host.absf main_v0
  let main_cst : FVec F S_ .f32 := constant S_ .f32 0x7F7F0000#32
  let main_v2 : FVec F S8x2048x8192 .f32 := broadcastInDim S8x2048x8192 ![] bcast_S_S8x2048x8192 main_cst
  let main_v3 : IVec S8x2048x8192 1 := cmpf .ole main_v1 main_v2
  let main_c : IVec S_ 1 := constantI S_ 1 1#1
  let main_v4 : IVec S_ 1 := (fun x v => Host.reduce IntOp.andi x v reducesTo_S8x2048x8192_S_d0_1_2 h_S_) main_v3 main_c
  let main_v5 : FVec F S8x2048x8192 .f32 := (extf .f32 · bitsLt_bf16_f32) main_arg1
  let main_v6 : FVec F S8x2048x8192 .f32 := Host.absf main_v5
  let main_cst_0 : FVec F S_ .f32 := constant S_ .f32 0x7F7F0000#32
  let main_v7 : FVec F S8x2048x8192 .f32 := broadcastInDim S8x2048x8192 ![] bcast_S_S8x2048x8192 main_cst_0
  let main_v8 : IVec S8x2048x8192 1 := cmpf .ole main_v6 main_v7
  let main_c_1 : IVec S_ 1 := constantI S_ 1 1#1
  let main_v9 : IVec S_ 1 := (fun x v => Host.reduce IntOp.andi x v reducesTo_S8x2048x8192_S_d0_1_2 h_S_) main_v8 main_c_1
  let main_v10 : FVec F S8x2048x8192 .f32 := (extf .f32 · bitsLt_bf16_f32) main_arg2
  let main_v11 : FVec F S8x2048x8192 .f32 := Host.absf main_v10
  let main_cst_2 : FVec F S_ .f32 := constant S_ .f32 0x7F7F0000#32
  let main_v12 : FVec F S8x2048x8192 .f32 := broadcastInDim S8x2048x8192 ![] bcast_S_S8x2048x8192 main_cst_2
  let main_v13 : IVec S8x2048x8192 1 := cmpf .ole main_v11 main_v12
  let main_c_3 : IVec S_ 1 := constantI S_ 1 1#1
  let main_v14 : IVec S_ 1 := (fun x v => Host.reduce IntOp.andi x v reducesTo_S8x2048x8192_S_d0_1_2 h_S_) main_v13 main_c_3
  let main_v15 : IVec S_ 1 := andi main_v9 main_v14
  let main_v16 : IVec S_ 1 := andi main_v4 main_v15
  main_v16
-- ==== Kernel.lean ====
abbrev S8x2048x8192 : Shape := ⟨3, ![8, 2048, 8192]⟩
abbrev S512x48x128 : Shape := ⟨3, ![512, 48, 128]⟩
abbrev S1x2048x128 : Shape := ⟨3, ![1, 2048, 128]⟩
abbrev S1x48x128 : Shape := ⟨3, ![1, 48, 128]⟩
abbrev S128x2048 : Shape := ⟨2, ![128, 2048]⟩
abbrev S16x256 : Shape := ⟨2, ![16, 256]⟩
abbrev S1x2048 : Shape := ⟨2, ![1, 2048]⟩
abbrev S16x128x256 : Shape := ⟨3, ![16, 128, 256]⟩
abbrev S128x256 : Shape := ⟨2, ![128, 256]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S255x1x1 : Shape := ⟨3, ![255, 1, 1]⟩
abbrev S1x1x1 : Shape := ⟨3, ![1, 1, 1]⟩
abbrev S1x1x128 : Shape := ⟨3, ![1, 1, 128]⟩
abbrev S1x256 : Shape := ⟨2, ![1, 256]⟩
abbrev S1x256x128 : Shape := ⟨3, ![1, 256, 128]⟩
abbrev S256x128 : Shape := ⟨2, ![256, 128]⟩
abbrev S1x128x256 : Shape := ⟨3, ![1, 128, 256]⟩
abbrev S256 : Shape := ⟨1, ![256]⟩
abbrev S2x256 : Shape := ⟨2, ![2, 256]⟩
abbrev S255x2x256 : Shape := ⟨3, ![255, 2, 256]⟩
abbrev S1x2x256 : Shape := ⟨3, ![1, 2, 256]⟩
abbrev S4x256 : Shape := ⟨2, ![4, 256]⟩
abbrev S255x4x256 : Shape := ⟨3, ![255, 4, 256]⟩
abbrev S1x4x256 : Shape := ⟨3, ![1, 4, 256]⟩
abbrev S6x256 : Shape := ⟨2, ![6, 256]⟩
abbrev S255x6x256 : Shape := ⟨3, ![255, 6, 256]⟩
abbrev S1x6x256 : Shape := ⟨3, ![1, 6, 256]⟩
abbrev S8x256 : Shape := ⟨2, ![8, 256]⟩
abbrev S255x8x256 : Shape := ⟨3, ![255, 8, 256]⟩
abbrev S1x8x256 : Shape := ⟨3, ![1, 8, 256]⟩
abbrev S10x256 : Shape := ⟨2, ![10, 256]⟩
abbrev S255x10x256 : Shape := ⟨3, ![255, 10, 256]⟩
abbrev S1x10x256 : Shape := ⟨3, ![1, 10, 256]⟩
abbrev S12x256 : Shape := ⟨2, ![12, 256]⟩
abbrev S255x12x256 : Shape := ⟨3, ![255, 12, 256]⟩
abbrev S1x12x256 : Shape := ⟨3, ![1, 12, 256]⟩
abbrev S14x256 : Shape := ⟨2, ![14, 256]⟩
abbrev S255x14x256 : Shape := ⟨3, ![255, 14, 256]⟩
abbrev S1x14x256 : Shape := ⟨3, ![1, 14, 256]⟩
abbrev S255x16x256 : Shape := ⟨3, ![255, 16, 256]⟩
abbrev S1x16x256 : Shape := ⟨3, ![1, 16, 256]⟩

abbrev nBuf : Space → Nat
  | .hbm => 8
  | .vmem => 28
  | .smem => 0
  | _ => 0

abbrev bufTy : (tb : Table) → Fin (tcTables nBuf tb) → BufTy
  | .hbm, ⟨0, _⟩ => ⟨S8x2048x8192, .bf16⟩
  | .hbm, ⟨1, _⟩ => ⟨S8x2048x8192, .bf16⟩
  | .hbm, ⟨2, _⟩ => ⟨S8x2048x8192, .bf16⟩
  | .hbm, ⟨3, _⟩ => ⟨S8x2048x8192, .bf16⟩
  | .hbm, ⟨4, _⟩ => ⟨S8x2048x8192, .fp8e4m3⟩
  | .hbm, ⟨5, _⟩ => ⟨S8x2048x8192, .fp8e4m3⟩
  | .hbm, ⟨6, _⟩ => ⟨S8x2048x8192, .fp8e4m3⟩
  | .hbm, ⟨7, _⟩ => ⟨S512x48x128, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .fp8e4m3⟩
  | .local _ .vmem, ⟨9, _⟩ => ⟨S1x2048x128, .fp8e4m3⟩
  | .local _ .vmem, ⟨10, _⟩ => ⟨S1x2048x128, .fp8e4m3⟩
  | .local _ .vmem, ⟨11, _⟩ => ⟨S1x2048x128, .fp8e4m3⟩
  | .local _ .vmem, ⟨12, _⟩ => ⟨S1x2048x128, .fp8e4m3⟩
  | .local _ .vmem, ⟨13, _⟩ => ⟨S1x2048x128, .fp8e4m3⟩
  | .local _ .vmem, ⟨14, _⟩ => ⟨S1x48x128, .f32⟩
  | .local _ .vmem, ⟨15, _⟩ => ⟨S1x48x128, .f32⟩
  | .local _ .vmem, ⟨16, _⟩ => ⟨S128x2048, .fp8e4m3⟩
  | .local _ .vmem, ⟨17, _⟩ => ⟨S16x256, .f32⟩
  | .local _ .vmem, ⟨18, _⟩ => ⟨S16x256, .f32⟩
  | .local _ .vmem, ⟨19, _⟩ => ⟨S1x2048, .f32⟩
  | .local _ .vmem, ⟨20, _⟩ => ⟨S16x128x256, .f32⟩
  | .local _ .vmem, ⟨21, _⟩ => ⟨S16x256, .f32⟩
  | .local _ .vmem, ⟨22, _⟩ => ⟨S16x256, .f32⟩
  | .local _ .vmem, ⟨23, _⟩ => ⟨S16x256, .f32⟩
  | .local _ .vmem, ⟨24, _⟩ => ⟨S16x256, .f32⟩
  | .local _ .vmem, ⟨25, _⟩ => ⟨S16x256, .f32⟩
  | .local _ .vmem, ⟨26, _⟩ => ⟨S16x256, .f32⟩
  | .local _ .vmem, ⟨27, _⟩ => ⟨S128x256, .f32⟩
  | _, _ => ⟨S8x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x48x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "sm_log2e" => some (((Real.sqrt 128)⁻¹ * (Real.log 2)⁻¹ : ℝ) : EReal)
  | _ => none
-- ==== ReferenceIdeal.lean ====
abbrev S8x2048x8192 : Shape := ⟨3, ![8, 2048, 8192]⟩
abbrev S512x48x128 : Shape := ⟨3, ![512, 48, 128]⟩
abbrev S8x16x128x64x128 : Shape := ⟨5, ![8, 16, 128, 64, 128]⟩
abbrev S8x16x64 : Shape := ⟨3, ![8, 16, 64]⟩
abbrev S8x16x1x64x1 : Shape := ⟨5, ![8, 16, 1, 64, 1]⟩
abbrev S8x2048x64x128 : Shape := ⟨4, ![8, 2048, 64, 128]⟩
abbrev S8x64x2048x2048 : Shape := ⟨4, ![8, 64, 2048, 2048]⟩
abbrev S8x64x16 : Shape := ⟨3, ![8, 64, 16]⟩
abbrev S8x64x16x1 : Shape := ⟨4, ![8, 64, 16, 1]⟩
abbrev S8x64x1x16 : Shape := ⟨4, ![8, 64, 1, 16]⟩
abbrev S8x64x16x16 : Shape := ⟨4, ![8, 64, 16, 16]⟩
abbrev S8x64x16x128x16x128 : Shape := ⟨6, ![8, 64, 16, 128, 16, 128]⟩
abbrev S8x64x16x1x16x1 : Shape := ⟨6, ![8, 64, 16, 1, 16, 1]⟩
abbrev S2048x2048 : Shape := ⟨2, ![2048, 2048]⟩
abbrev S1x1x2048x2048 : Shape := ⟨4, ![1, 1, 2048, 2048]⟩
abbrev S8x64x2048 : Shape := ⟨3, ![8, 64, 2048]⟩
abbrev S8x64x2048x1 : Shape := ⟨4, ![8, 64, 2048, 1]⟩
abbrev S8x64x2048x16x128 : Shape := ⟨5, ![8, 64, 2048, 16, 128]⟩
abbrev S8x64x2048x16 : Shape := ⟨4, ![8, 64, 2048, 16]⟩
abbrev S8x64x2048x16x1 : Shape := ⟨5, ![8, 64, 2048, 16, 1]⟩
abbrev S8x64x16x128x2048 : Shape := ⟨5, ![8, 64, 16, 128, 2048]⟩
abbrev S8x64x1x16x1 : Shape := ⟨5, ![8, 64, 1, 16, 1]⟩
abbrev S8x64x2048x128 : Shape := ⟨4, ![8, 64, 2048, 128]⟩
abbrev S512x16 : Shape := ⟨2, ![512, 16]⟩
abbrev S512x48 : Shape := ⟨2, ![512, 48]⟩
abbrev S512x48x1 : Shape := ⟨3, ![512, 48, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x8192, .bf16⟩
  | .hbm, ⟨1, _⟩ => ⟨S8x2048x8192, .bf16⟩
  | .hbm, ⟨2, _⟩ => ⟨S8x2048x8192, .bf16⟩
  | .hbm, ⟨3, _⟩ => ⟨S8x2048x8192, .bf16⟩
  | .hbm, ⟨4, _⟩ => ⟨S8x2048x8192, .fp8e4m3⟩
  | .hbm, ⟨5, _⟩ => ⟨S8x2048x8192, .fp8e4m3⟩
  | .hbm, ⟨6, _⟩ => ⟨S8x2048x8192, .fp8e4m3⟩
  | .hbm, ⟨7, _⟩ => ⟨S512x48x128, .f32⟩
  | .local _ .vmem, ⟨0, _⟩ => ⟨S8x2048x8192, .bf16⟩
  | .local _ .vmem, ⟨1, _⟩ => ⟨S8x2048x8192, .bf16⟩
  | .local _ .vmem, ⟨2, _⟩ => ⟨S8x2048x8192, .bf16⟩
  | .local _ .vmem, ⟨3, _⟩ => ⟨S8x2048x8192, .bf16⟩
  | .local _ .vmem, ⟨4, _⟩ => ⟨S8x2048x8192, .fp8e4m3⟩
  | .local _ .vmem, ⟨5, _⟩ => ⟨S8x2048x8192, .fp8e4m3⟩
  | .local _ .vmem, ⟨6, _⟩ => ⟨S8x2048x8192, .fp8e4m3⟩
  | .local _ .vmem, ⟨7, _⟩ => ⟨S512x48x128, .f32⟩
  | _, _ => ⟨S8x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "ln2" => some ((Real.log 2 : ℝ) : EReal)
  | "sm_scale" => some (((Real.sqrt 128)⁻¹ : ℝ) : EReal)
  | _ => none

abbrev grid0 : Pipeline.Grid := .none

abbrev stage0_0 : Fin 1 → Memref sig .tc .vmem S8x2048x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x48x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Vocab.lean ====
/-
  The kernel's vector computations named once: the quantiser of a 128 × 128 block, and the steps of one attention tile
  of 256 queries against `N` blocks of 128 keys.
-/
module

public import proofs.«01_k».proof.Proof.Gen.KernelIdeal
public import Idealize.ShloMosaic.Lib.Pointwise

@[expose] public section

noncomputable section

namespace Cert.KernelIdeal.Attn

open Idealize.ShloMosaic Cert.KernelIdeal Cert.KernelIdeal.Gen

/-- The shape facts of an exponent count over an `A × B` array. -/
structure Ev (A B : ℕ) : Prop where
  cast : (⟨2, ![A, B]⟩ : Shape).ShapeCasts ⟨3, ![1, A, B]⟩
  bcast : (⟨3, ![1, A, B]⟩ : Shape).Broadcasts ⟨3, ![255, A, B]⟩
  iotas : (⟨3, ![255, A, B]⟩ : Shape).Iotas .tc 32 [0]
  reduces : (⟨3, ![255, A, B]⟩ : Shape).Reduces [0] ⟨2, ![A, B]⟩

/-- The exponents of an `A × B` array, each by counting the powers of two it reaches. -/
def expV (A B : ℕ) (E : Ev A B) (y : FVec Ideal ⟨2, ![A, B]⟩ .f32) : IVec ⟨2, ![A, B]⟩ 32 :=
  let cnt : IVec ⟨2, ![A, B]⟩ 32 := fptosi 32 (multiReduction (F := Ideal) (φ := .f32) .add [0] ⟨2, ![A, B]⟩
    (select (cmpf .oge (broadcastTo ⟨3, ![255, A, B]⟩ (shapeCast ⟨3, ![1, A, B]⟩ y E.cast) E.bcast)
        (bitcastToFloat .f32 (shli (addi (iota .tc ⟨3, ![255, A, B]⟩ 32 [0] E.iotas) (broadcast _ 1#32)) (broadcast _ 23#32))))
      (broadcast _ (Scalar.ofBits .f32 0x3F800000#32)) (broadcast _ (Scalar.ofBits .f32 0x00000000#32)))
    0x00000000#32 E.reduces (.inl rfl) rfl)
  select (cmpi .eq cnt (broadcast _ 0#32)) (broadcast _ 0#32) (subi cnt (broadcast _ 126#32))

/-- The powers of two of an array of exponents. -/
def powV (s : Shape) (e : IVec s 32) : FVec Ideal s .f32 :=
  bitcastToFloat .f32 (shli (addi e (broadcast s 127#32)) (broadcast s 23#32))

/-! ## The quantiser of a block -/

/-- The shape facts of a single number. -/
theorem ev11 : Ev 1 1 :=
  ⟨shapeCasts_S1x1_S1x1x1, broadcasts_S1x1x1_S255x1x1, iota_S255x1x1_d0_w32, reduces_S255x1x1_S1x1⟩

/-- The largest absolute value of a block. -/
def amaxV (b : FVec Ideal S128x128 .bf16) : FVec Ideal S1x1 .f32 :=
  shapeCast S1x1 (multiReduction .maximumf [1] S1 (extf .f32 (shapeCast S1x128
    (multiReduction .maximumf [0] S128 (absf b) 0xFF80#16 reduces_S128x128_S128 (.inr rfl) rfl) shapeCasts_S128_S1x128)
    bitsLt_bf16_f32) 0xFF800000#32 reduces_S1x128_S1 (.inl rfl) rfl) shapeCasts_S1_S1x1

/-- The exponent of a block. -/
def expB (b : FVec Ideal S128x128 .bf16) : IVec S1x1 32 :=
  expV 1 1 ev11 (mulf (amaxV b) (broadcast S1x1 (Scalar.ofBits .f32 0x3B124925#32)))

/-- The scale of a block, at shape `s`. -/
def scaleB (s : Shape) (h : S1x1.Broadcasts s) (b : FVec Ideal S128x128 .bf16) : FVec Ideal s .f32 :=
  broadcastTo s (shapeCast S1x1 (powV S1x1 (expB b)) shapeCasts_S1x1_S1x1) h

/-- The clipped numbers of a block. -/
def clipB (b : FVec Ideal S128x128 .bf16) : FVec Ideal S128x128 .bf16 :=
  minimumf (broadcast S128x128 (Scalar.truncf .bf16 bitsLt_bf16_f32 (Scalar.ofBits .f32 0x43E00000#32)))
    (maximumf (broadcast S128x128 (Scalar.truncf .bf16 bitsLt_bf16_f32 (Scalar.ofBits .f32 0xC3E00000#32)))
      (mulf b (broadcastTo S128x128 (truncf .bf16 (powV S1x1 (subi (broadcast S1x1 0#32) (expB b))) bitsLt_bf16_f32)
        broadcasts_S1x1_S128x128)))

/-- The codes of a block. -/
def codesB (b : FVec Ideal S128x128 .bf16) : FVec Ideal S128x128 .fp8e4m3 :=
  truncf .fp8e4m3 (clipB b) bitsLt_fp8e4m3_bf16

/-- The codes of a block, transposed. -/
def codesTB (b : FVec Ideal S128x128 .bf16) : FVec Ideal S128x128 .fp8e4m3 :=
  shapeCast S128x128 (truncf .fp8e4m3 (transpose S128x128 [1, 0] (extf .f32 (clipB b) bitsLt_bf16_f32)
    transposes_S128x128_p1_0_S128x128) bitsLt_fp8e4m3_f32) shapeCasts_S128x128_S128x128

/-! ## One attention tile -/

/-- The products of a block of keys with a tile of queries. -/
def dotV (k : FVec Ideal S128x128 .fp8e4m3) (q : FVec Ideal S256x128 .fp8e4m3) : FVec Ideal S128x256 .f32 :=
  matmul dot_S128x128_S256x128_S128x256_1_1_0_0_n_n none k q (constant S128x256 .f32 0x00000000#32)

/-- The same where the key's place `a + row` is not after the query's `b + column`, `−∞` elsewhere. -/
def maskV (a b : BitVec 32) (s : FVec Ideal S128x256 .f32) : FVec Ideal S128x256 .f32 :=
  select (cmpi .sle (addi (iota .tc S128x256 32 [0] iota_S128x256_d0_w32) (broadcast S128x256 a))
    (addi (iota .tc S128x256 32 [1] iota_S128x256_d1_w32) (broadcast S128x256 b))) s
    (broadcast S128x256 (Scalar.ofBits .f32 0xFF800000#32))

/-- The largest of each column. -/
def colMax (s : FVec Ideal S128x256 .f32) : FVec Ideal S1x256 .f32 :=
  shapeCast S1x256 (shapeCast S1x256 (multiReduction .maximumf [0] S256 s 0xFF800000#32 reduces_S128x256_S256 (.inl rfl) rfl)
    shapeCasts_S256_S1x256) shapeCasts_S1x256_S1x256

/-- The shape facts of a tile of `N` blocks. -/
structure EvT (N : ℕ) : Prop where
  ev : Ev N 256
  bcast : S1x256.Broadcasts ⟨2, ![N, 256]⟩
  reduces : (⟨2, ![N, 256]⟩ : Shape).Reduces [0] S256
  cast : (⟨2, ![N, 256]⟩ : Shape).ShapeCasts ⟨2, ![N, 256]⟩

variable {N : ℕ} (E : EvT N)

/-- The factors that turn products into base-2 exponents. -/
def cV (ks : FVec Ideal ⟨2, ![N, 256]⟩ .f32) (sq : FVec Ideal S1x256 .f32) : FVec Ideal ⟨2, ![N, 256]⟩ .f32 :=
  mulf (mulf ks (broadcastTo _ sq E.bcast)) (broadcast _ (Named.named κ "sm_log2e" 0x3E0293EE#32))

/-- The largest base-2 exponent of each query. -/
def mV (t : FVec Ideal ⟨2, ![N, 256]⟩ .f32) : FVec Ideal S1x256 .f32 :=
  shapeCast S1x256 (multiReduction .maximumf [0] S256 t 0xFF800000#32 E.reduces (.inl rfl) rfl) shapeCasts_S256_S1x256

/-- The exponents of the blocks of weights. -/
def eV (t : FVec Ideal ⟨2, ![N, 256]⟩ .f32) : IVec ⟨2, ![N, 256]⟩ 32 :=
  expV N 256 E.ev (mulf (exp2 (subf t (broadcastTo _ (mV E t) E.bcast))) (broadcast _ (Scalar.ofBits .f32 0x3B124925#32)))

/-- What is taken from the base-2 exponents: the largest and the block's own exponent. -/
def soV (t : FVec Ideal ⟨2, ![N, 256]⟩ .f32) : FVec Ideal ⟨2, ![N, 256]⟩ .f32 :=
  addf (broadcastTo _ (mV E t) E.bcast) (sitofp .f32 (eV E t))

/-- The scales of the blocks of weights. -/
def peV (t : FVec Ideal ⟨2, ![N, 256]⟩ .f32) : FVec Ideal ⟨2, ![N, 256]⟩ .f32 :=
  powV _ (eV E t)

/-- The scaled weights of a block. -/
def pV (s : FVec Ideal S1x128x256 .f32) (c so : FVec Ideal S1x256 .f32) : FVec Ideal S128x256 .f32 :=
  exp2 (subf (mulf (shapeCast S128x256 s shapeCasts_S1x128x256_S128x256) (broadcastTo S128x256 c broadcasts_S1x256_S128x256))
    (broadcastTo S128x256 so broadcasts_S1x256_S128x256))

/-- The sum of each column. -/
def colSum (p : FVec Ideal S128x256 .f32) : FVec Ideal S1x256 .f32 :=
  shapeCast S1x256 (shapeCast S1x256 (multiReduction .add [0] S256 p 0x00000000#32 reduces_S128x256_S256 (.inl rfl) rfl)
    shapeCasts_S256_S1x256) shapeCasts_S1x256_S1x256

/-- A block's part of the output. -/
def avV (vt : FVec Ideal S128x128 .fp8e4m3) (p : FVec Ideal S128x256 .f32) (off : FVec Ideal S1x256 .f32) :
    FVec Ideal S128x256 .f32 :=
  mulf (matmul dot_S128x128_S128x256_S128x256_1_0_0_1_n_n none vt
    (truncf .fp8e4m3 (minimumf (broadcast S128x256 (Scalar.ofBits .f32 0x43E00000#32))
      (maximumf (broadcast S128x256 (Scalar.ofBits .f32 0xC3E00000#32)) p)) bitsLt_fp8e4m3_f32)
    (constant S128x256 .f32 0x00000000#32)) (broadcastTo S128x256 off broadcasts_S1x256_S128x256)

/-- The tile's results: the accumulated output over the accumulated weights. -/
def yV (ls pe : FVec Ideal ⟨2, ![N, 256]⟩ .f32) (acc : FVec Ideal S128x256 .f32) : FVec Ideal S1x256x128 .bf16 :=
  shapeCast S1x256x128 (truncf .bf16 (transpose S256x128 [1, 0] (divf acc (broadcastTo S128x256
    (shapeCast S1x256 (multiReduction .add [0] S256 (mulf ls pe) 0x00000000#32 E.reduces (.inl rfl) rfl) shapeCasts_S256_S1x256)
    broadcasts_S1x256_S128x256)) transposes_S128x256_p1_0_S256x128) bitsLt_bf16_f32) shapeCasts_S256x128_S1x256x128

end Cert.KernelIdeal.Attn
-- ==== Proof.Pieces.lean ====
/-
  What the kernel writes, list by list, in the words of Vocab.lean: the quantised blocks, and per tile of 256 queries the
  products, their maxima, the factors, the weights' sums and the accumulated output.
-/
module

public import proofs.«01_k».proof.Proof.Vocab
public import proofs.«01_k».proof.Proof.Gen.KernelIdeal.Frame.RunA

@[expose] public section

set_option maxRecDepth 16384

noncomputable section

namespace Cert.KernelIdeal.Attn

open Idealize.ShloMosaic Cert.KernelIdeal Cert.KernelIdeal.Gen

/-- A stack of pieces, the last first, on top of older ones. -/
def stackOn {α : Type} (base : List α) (M : ℕ) (p : (n : ℕ) → n < M → α) : (m : ℕ) → m ≤ M → List α
  | 0, _ => base
  | m + 1, h => p m h :: stackOn base M p m (Nat.le_of_succ_le h)

/-! ## The rectangles -/

theorem inbRows {n : ℕ} (h : n < 16) : ∀ a, (![0, 128 * n, 0] : Fin 3 → ℕ) a + S1x128x128.size a ≤ S1x2048x128.size a
  | 0 => by show 0 + 1 ≤ 1; omega
  | 1 => by show 128 * n + 128 ≤ 2048; omega
  | 2 => by show 0 + 128 ≤ 128; omega

theorem inbTile {j : ℕ} (h : j < 8) : ∀ a, (![0, 256 * j, 0] : Fin 3 → ℕ) a + S1x256x128.size a ≤ S1x2048x128.size a
  | 0 => by show 0 + 1 ≤ 1; omega
  | 1 => by show 256 * j + 256 ≤ 2048; omega
  | 2 => by show 0 + 128 ≤ 128; omega

theorem inbScale {n : ℕ} (h : n < 48) : ∀ a, (![0, n, 0] : Fin 3 → ℕ) a + S1x1x128.size a ≤ S1x48x128.size a
  | 0 => by show 0 + 1 ≤ 1; omega
  | 1 => by show n + 1 ≤ 48; omega
  | 2 => by show 0 + 128 ≤ 128; omega

theorem inbLane {n : ℕ} (h : n < 16) : ∀ a, (![0, 128 * n] : Fin 2 → ℕ) a + S1x128.size a ≤ S1x2048.size a
  | 0 => by show 0 + 1 ≤ 1; omega
  | 1 => by show 128 * n + 128 ≤ 2048; omega

theorem inbLaneTile {j : ℕ} (h : j < 8) : ∀ a, (![0, 256 * j] : Fin 2 → ℕ) a + S1x256.size a ≤ S1x2048.size a
  | 0 => by show 0 + 1 ≤ 1; omega
  | 1 => by show 256 * j + 256 ≤ 2048; omega

theorem inbRow {n : ℕ} (h : n < 16) : ∀ a, (![n, 0] : Fin 2 → ℕ) a + S1x256.size a ≤ S16x256.size a
  | 0 => by show n + 1 ≤ 16; omega
  | 1 => by show 0 + 256 ≤ 256; omega

theorem inbFront {N : ℕ} (h : N ≤ 16) : ∀ a, (![0, 0] : Fin 2 → ℕ) a + (⟨2, ![N, 256]⟩ : Shape).size a ≤ S16x256.size a
  | 0 => by show 0 + N ≤ 16; omega
  | 1 => by show 0 + 256 ≤ 256; omega

theorem inbSlab {n : ℕ} (h : n < 16) : ∀ a, (![n, 0, 0] : Fin 3 → ℕ) a + S1x128x256.size a ≤ S16x128x256.size a
  | 0 => by show n + 1 ≤ 16; omega
  | 1 => by show 0 + 128 ≤ 128; omega
  | 2 => by show 0 + 256 ≤ 256; omega

theorem inbCols {n : ℕ} (h : n < 16) : ∀ a, (![0, 128 * n] : Fin 2 → ℕ) a + S128x128.size a ≤ S128x2048.size a
  | 0 => by show 0 + 128 ≤ 128; omega
  | 1 => by show 128 * n + 128 ≤ 2048; omega

theorem inbAcc : ∀ a, (![0, 0] : Fin 2 → ℕ) a + S128x256.size a ≤ S128x256.size a
  | 0 => by show 0 + 128 ≤ 128; omega
  | 1 => by show 0 + 256 ≤ 256; omega

/-! ## The quantised blocks -/

/-- Block `n` of an argument's window. -/
def blkV (a : Memref sig .tc .vmem S1x2048x128 .bf16) (ha : a.IsWhole) (x : Vec Ideal S1x2048x128 .bf16) (n : ℕ) (h : n < 16) :
    FVec Ideal S128x128 .bf16 :=
  shapeCast S128x128 (View.readAt (Elt Ideal) a.view (Rect.unit (s := S1x2048x128) ![0, 128 * n, 0] S1x128x128.size (inbRows h)).toLoadRect
    (ha.unread x)) shapeCasts_S1x128x128_S128x128

/-! ## The tiles -/

/-- The shape facts of each tile. -/
theorem evT : (j : Fin 8) → EvT (2 * j.val + 2)
  | 0 => ⟨⟨shapeCasts_S2x256_S1x2x256, broadcasts_S1x2x256_S255x2x256, iota_S255x2x256_d0_w32, reduces_S255x2x256_S2x256⟩,
      broadcasts_S1x256_S2x256, reduces_S2x256_S256, shapeCasts_S2x256_S2x256⟩
  | 1 => ⟨⟨shapeCasts_S4x256_S1x4x256, broadcasts_S1x4x256_S255x4x256, iota_S255x4x256_d0_w32, reduces_S255x4x256_S4x256⟩,
      broadcasts_S1x256_S4x256, reduces_S4x256_S256, shapeCasts_S4x256_S4x256⟩
  | 2 => ⟨⟨shapeCasts_S6x256_S1x6x256, broadcasts_S1x6x256_S255x6x256, iota_S255x6x256_d0_w32, reduces_S255x6x256_S6x256⟩,
      broadcasts_S1x256_S6x256, reduces_S6x256_S256, shapeCasts_S6x256_S6x256⟩
  | 3 => ⟨⟨shapeCasts_S8x256_S1x8x256, broadcasts_S1x8x256_S255x8x256, iota_S255x8x256_d0_w32, reduces_S255x8x256_S8x256⟩,
      broadcasts_S1x256_S8x256, reduces_S8x256_S256, shapeCasts_S8x256_S8x256⟩
  | 4 => ⟨⟨shapeCasts_S10x256_S1x10x256, broadcasts_S1x10x256_S255x10x256, iota_S255x10x256_d0_w32, reduces_S255x10x256_S10x256⟩,
      broadcasts_S1x256_S10x256, reduces_S10x256_S256, shapeCasts_S10x256_S10x256⟩
  | 5 => ⟨⟨shapeCasts_S12x256_S1x12x256, broadcasts_S1x12x256_S255x12x256, iota_S255x12x256_d0_w32, reduces_S255x12x256_S12x256⟩,
      broadcasts_S1x256_S12x256, reduces_S12x256_S256, shapeCasts_S12x256_S12x256⟩
  | 6 => ⟨⟨shapeCasts_S14x256_S1x14x256, broadcasts_S1x14x256_S255x14x256, iota_S255x14x256_d0_w32, reduces_S255x14x256_S14x256⟩,
      broadcasts_S1x256_S14x256, reduces_S14x256_S256, shapeCasts_S14x256_S14x256⟩
  | 7 => ⟨⟨shapeCasts_S16x256_S1x16x256, broadcasts_S1x16x256_S255x16x256, iota_S255x16x256_d0_w32, reduces_S255x16x256_S16x256⟩,
      broadcasts_S1x256_S16x256, reduces_S16x256_S256, shapeCasts_S16x256_S16x256⟩

/-- The buffers a tile works in, and what the quantisers left in those it reads. -/
structure Env where
  a6 : Memref sig .tc .vmem S1x2048x128 .fp8e4m3
  a7 : Memref sig .tc .vmem S1x2048x128 .fp8e4m3
  a10 : Memref sig .tc .vmem S128x2048 .fp8e4m3
  a11 : Memref sig .tc .vmem S16x256 .f32
  a12 : Memref sig .tc .vmem S16x256 .f32
  a13 : Memref sig .tc .vmem S1x2048 .f32
  a14 : Memref sig .tc .vmem S16x128x256 .f32
  a15 : Memref sig .tc .vmem S16x256 .f32
  a16 : Memref sig .tc .vmem S16x256 .f32
  a17 : Memref sig .tc .vmem S16x256 .f32
  a18 : Memref sig .tc .vmem S16x256 .f32
  a19 : Memref sig .tc .vmem S16x256 .f32
  a20 : Memref sig .tc .vmem S16x256 .f32
  a21 : Memref sig .tc .vmem S128x256 .f32
  qL : List (View.Piece (Elt Ideal) S1x2048x128 .fp8e4m3)
  kL : List (View.Piece (Elt Ideal) S1x2048x128 .fp8e4m3)
  vL : List (View.Piece (Elt Ideal) S128x2048 .fp8e4m3)
  ksL : List (View.Piece (Elt Ideal) S16x256 .f32)
  vsL : List (View.Piece (Elt Ideal) S16x256 .f32)
  qsL : List (View.Piece (Elt Ideal) S1x2048 .f32)

/-- The writes a tile leaves in its buffers, older tiles' below. -/
structure Lists where
  l4 : List (View.Piece (Elt Ideal) S16x128x256 .f32)
  l5 : List (View.Piece (Elt Ideal) S16x256 .f32)
  l6 : List (View.Piece (Elt Ideal) S16x256 .f32)
  l7 : List (View.Piece (Elt Ideal) S16x256 .f32)
  l8 : List (View.Piece (Elt Ideal) S16x256 .f32)
  l9 : List (View.Piece (Elt Ideal) S16x256 .f32)
  l10 : List (View.Piece (Elt Ideal) S16x256 .f32)
  l11 : List (View.Piece (Elt Ideal) S128x256 .f32)

/-- The first `N` rows of a buffer. -/
def ldRows (a : Memref sig .tc .vmem S16x256 .f32) (L : List (View.Piece (Elt Ideal) S16x256 .f32)) (N : ℕ) (h : N ≤ 16) :
    FVec Ideal ⟨2, ![N, 256]⟩ .f32 :=
  a.view.readCov L (Rect.unit (s := S16x256) ![0, 0] (⟨2, ![N, 256]⟩ : Shape).size (inbFront h)).toLoadRect

/-- Row `n` of a buffer. -/
def ldRow (a : Memref sig .tc .vmem S16x256 .f32) (L : List (View.Piece (Elt Ideal) S16x256 .f32)) (n : ℕ) (h : n < 16) :
    FVec Ideal S1x256 .f32 :=
  a.view.readCov L (Rect.unit (s := S16x256) ![n, 0] S1x256.size (inbRow h)).toLoadRect

/-- The accumulator. -/
def ldAcc (a : Memref sig .tc .vmem S128x256 .f32) (L : List (View.Piece (Elt Ideal) S128x256 .f32)) : FVec Ideal S128x256 .f32 :=
  a.view.readCov L (Rect.unit (s := S128x256) ![0, 0] S128x256.size inbAcc).toLoadRect

/-- Slab `n` of the products. -/
def ldSlab (a : Memref sig .tc .vmem S16x128x256 .f32) (L : List (View.Piece (Elt Ideal) S16x128x256 .f32)) (n : ℕ) (h : n < 16) :
    FVec Ideal S1x128x256 .f32 :=
  a.view.readCov L (Rect.unit (s := S16x128x256) ![n, 0, 0] S1x128x256.size (inbSlab h)).toLoadRect

section Tile

variable (V : Env) (j : ℕ) (hj : j < 8) (E : EvT (2 * j + 2)) (B L : Lists)

/-- The products of block `n` of the keys with the tile's queries. -/
def prodV (n : ℕ) (h : n < 16) : FVec Ideal S128x256 .f32 :=
  dotV (shapeCast S128x128 (V.a7.view.readCov V.kL (Rect.unit (s := S1x2048x128) ![0, 128 * n, 0] S1x128x128.size (inbRows h)).toLoadRect)
      shapeCasts_S1x128x128_S128x128)
    (shapeCast S256x128 (V.a6.view.readCov V.qL (Rect.unit (s := S1x2048x128) ![0, 256 * j, 0] S1x256x128.size (inbTile hj)).toLoadRect)
      shapeCasts_S1x256x128_S256x128)

/-- The same of a block on the diagonal, masked. -/
def diagV (n : ℕ) (h : n < 16) : FVec Ideal S128x256 .f32 :=
  maskV (BitVec.ofNat 32 (128 * n)) (BitVec.ofNat 32 (256 * j)) (prodV V j hj n h)

/-- Block `n` of the transposed values' codes. -/
def vtV (n : ℕ) (h : n < 16) : FVec Ideal S128x128 .fp8e4m3 :=
  V.a10.view.readCov V.vL (Rect.unit (s := S128x2048) ![0, 128 * n] S128x128.size (inbCols h)).toLoadRect

/-- A slab of products as a piece. -/
def slabP (n : ℕ) (h : n < 16) (s : FVec Ideal S128x256 .f32) : View.Piece (Elt Ideal) S16x128x256 .f32 :=
  ⟨Rect.unit (s := S16x128x256) ![n, 0, 0] S1x128x256.size (inbSlab h), shapeCast S1x128x256 s shapeCasts_S128x256_S1x128x256⟩

/-- A row as a piece. -/
def rowP (n : ℕ) (h : n < 16) (s : FVec Ideal S1x256 .f32) : View.Piece (Elt Ideal) S16x256 .f32 :=
  ⟨Rect.unit (s := S16x256) ![n, 0] S1x256.size (inbRow h), s⟩

/-- The first rows as a piece. -/
def frontP {N : ℕ} (hN : N ≤ 16) (E : EvT N) (s : FVec Ideal ⟨2, ![N, 256]⟩ .f32) : View.Piece (Elt Ideal) S16x256 .f32 :=
  ⟨Rect.unit (s := S16x256) ![0, 0] (⟨2, ![N, 256]⟩ : Shape).size (inbFront hN), shapeCast _ s E.cast⟩

/-- The accumulator as a piece. -/
def accP (s : FVec Ideal S128x256 .f32) : View.Piece (Elt Ideal) S128x256 .f32 :=
  ⟨Rect.unit (s := S128x256) ![0, 0] S128x256.size inbAcc, shapeCast S128x256 s shapeCasts_S128x256_S128x256⟩

/-- The tile's products. -/
def tile4 (base : List (View.Piece (Elt Ideal) S16x128x256 .f32)) : List (View.Piece (Elt Ideal) S16x128x256 .f32) :=
  slabP (2 * j + 1) (by omega) (diagV V j hj (2 * j + 1) (by omega)) :: slabP (2 * j) (by omega) (diagV V j hj (2 * j) (by omega)) ::
    stackOn base 16 (fun n h => slabP n h (prodV V j hj n h)) (2 * j) (by omega)

/-- Their largest. -/
def tile5 (base : List (View.Piece (Elt Ideal) S16x256 .f32)) : List (View.Piece (Elt Ideal) S16x256 .f32) :=
  rowP (2 * j + 1) (by omega) (colMax (diagV V j hj (2 * j + 1) (by omega))) ::
    rowP (2 * j) (by omega) (colMax (diagV V j hj (2 * j) (by omega))) ::
    stackOn base 16 (fun n h => rowP n h (colMax (prodV V j hj n h))) (2 * j) (by omega)

/-- The tile's factors. -/
def tileC : FVec Ideal ⟨2, ![2 * j + 2, 256]⟩ .f32 :=
  cV E (ldRows V.a11 V.ksL (2 * j + 2) (by omega))
    (V.a13.view.readCov V.qsL (Rect.unit (s := S1x2048) ![0, 256 * j] S1x256.size (inbLaneTile hj)).toLoadRect)

/-- The largest base-2 exponents of the blocks. -/
def tileT : FVec Ideal ⟨2, ![2 * j + 2, 256]⟩ .f32 :=
  mulf (ldRows V.a15 L.l5 (2 * j + 2) (by omega)) (tileC V j hj E)

/-- The scaled weights of block `n`. -/
def tileP (n : ℕ) (h : n < 16) : FVec Ideal S128x256 .f32 :=
  pV (ldSlab V.a14 L.l4 n h) (ldRow V.a16 L.l6 n h) (ldRow V.a17 L.l7 n h)

/-- Block `n`'s part of the output. -/
def tileA (n : ℕ) (h : n < 16) : FVec Ideal S128x256 .f32 :=
  avV (vtV V n h) (tileP V L n h) (ldRow V.a18 L.l8 n h)

/-- `l` is the accumulator's writes up to block `n`: each adds the block's part to what the writes before it left. -/
inductive AccL (base : List (View.Piece (Elt Ideal) S128x256 .f32)) : ℕ → List (View.Piece (Elt Ideal) S128x256 .f32) → Prop
  | zero (h : 0 < 16) : AccL base 0 (accP (tileA V L 0 h) :: base)
  | succ {n : ℕ} {l : List (View.Piece (Elt Ideal) S128x256 .f32)} (h : n + 1 < 16) (hl : AccL base n l) :
      AccL base (n + 1) (accP (addf (ldAcc V.a21 l) (tileA V L (n + 1) h)) :: l)

/-- `L` is what tile `j` leaves on top of `B`. -/
structure IsTile : Prop where
  h4 : L.l4 = tile4 V j hj B.l4
  h5 : L.l5 = tile5 V j hj B.l5
  h6 : L.l6 = frontP (by omega) E (tileC V j hj E) :: B.l6
  h7 : L.l7 = frontP (by omega) E (soV E (tileT V j hj E L)) :: B.l7
  h8 : L.l8 = frontP (by omega) E (mulf (peV E (tileT V j hj E L)) (ldRows V.a12 V.vsL (2 * j + 2) (by omega))) :: B.l8
  h9 : L.l9 = frontP (by omega) E (peV E (tileT V j hj E L)) :: B.l9
  h10 : L.l10 = stackOn B.l10 16 (fun n h => rowP n h (colSum (tileP V L n h))) (2 * j + 2) (by omega)
  h11 : AccL V L B.l11 (2 * j + 1) L.l11

/-- The tile's results. -/
def tileY : FVec Ideal S1x256x128 .bf16 :=
  yV E (ldRows V.a20 L.l10 (2 * j + 2) (by omega)) (ldRows V.a19 L.l9 (2 * j + 2) (by omega)) (ldAcc V.a21 L.l11)

end Tile

variable (c : Dev nD) (i : grid0.Coords)
  (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x2048x128 .fp8e4m3) (harg7 : arg7.IsWhole)
  (arg8 : Memref sig .tc .vmem S1x2048x128 .fp8e4m3) (harg8 : arg8.IsWhole)
  (arg9 : Memref sig .tc .vmem S1x48x128 .f32) (harg9 : arg9.IsWhole)
  (arg10 : Memref sig .tc .vmem S128x2048 .fp8e4m3) (harg10 : arg10.IsWhole)
  (arg11 : Memref sig .tc .vmem S16x256 .f32) (harg11 : arg11.IsWhole)
  (arg12 : Memref sig .tc .vmem S16x256 .f32) (harg12 : arg12.IsWhole)
  (arg13 : Memref sig .tc .vmem S1x2048 .f32) (harg13 : arg13.IsWhole)
  (arg14 : Memref sig .tc .vmem S16x128x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (arg18 : Memref sig .tc .vmem S16x256 .f32) (harg18 : arg18.IsWhole)
  (arg19 : Memref sig .tc .vmem S16x256 .f32) (harg19 : arg19.IsWhole)
  (arg20 : Memref sig .tc .vmem S16x256 .f32) (harg20 : arg20.IsWhole)
  (arg21 : Memref sig .tc .vmem S128x256 .f32) (harg21 : arg21.IsWhole)
  (x0 x1 x2 : Vec Ideal S1x2048x128 .bf16)

/-- The stack of an argument's codes. -/
def codesL (a : Memref sig .tc .vmem S1x2048x128 .bf16) (ha : a.IsWhole) (x : Vec Ideal S1x2048x128 .bf16) :
    List (View.Piece (Elt Ideal) S1x2048x128 .fp8e4m3) :=
  stackOn [] 16 (fun n h => ⟨Rect.unit ![0, 128 * n, 0] S1x128x128.size (inbRows h),
    shapeCast S1x128x128 (codesB (blkV a ha x n h)) shapeCasts_S128x128_S1x128x128⟩) 16 le_rfl

/-- The stack of an argument's scales, one row of 256 lanes each. -/
def rowsL (a : Memref sig .tc .vmem S1x2048x128 .bf16) (ha : a.IsWhole) (x : Vec Ideal S1x2048x128 .bf16) :
    List (View.Piece (Elt Ideal) S16x256 .f32) :=
  stackOn [] 16 (fun n h => ⟨Rect.unit ![n, 0] S1x256.size (inbRow h),
    shapeCast S1x256 (scaleB S1x256 broadcasts_S1x1_S1x256 (blkV a ha x n h)) shapeCasts_S1x256_S1x256⟩) 16 le_rfl

/-- The stack of the queries' scales along the lanes. -/
def lanesL (a : Memref sig .tc .vmem S1x2048x128 .bf16) (ha : a.IsWhole) (x : Vec Ideal S1x2048x128 .bf16) :
    List (View.Piece (Elt Ideal) S1x2048 .f32) :=
  stackOn [] 16 (fun n h => ⟨Rect.unit ![0, 128 * n] S1x128.size (inbLane h),
    shapeCast S1x128 (scaleB S1x128 broadcasts_S1x1_S1x128 (blkV a ha x n h)) shapeCasts_S1x128_S1x128⟩) 16 le_rfl

/-- The stack of the transposed codes. -/
def codesTL (a : Memref sig .tc .vmem S1x2048x128 .bf16) (ha : a.IsWhole) (x : Vec Ideal S1x2048x128 .bf16) :
    List (View.Piece (Elt Ideal) S128x2048 .fp8e4m3) :=
  stackOn [] 16 (fun n h => ⟨Rect.unit ![0, 128 * n] S128x128.size (inbCols h), codesTB (blkV a ha x n h)⟩) 16 le_rfl

/-- The stack of an argument's scales as results, from row `o` on, on top of older ones. -/
def scalesL (base : List (View.Piece (Elt Ideal) S1x48x128 .f32)) (o : ℕ) (ho : o ≤ 32)
    (a : Memref sig .tc .vmem S1x2048x128 .bf16) (ha : a.IsWhole) (x : Vec Ideal S1x2048x128 .bf16) :
    List (View.Piece (Elt Ideal) S1x48x128 .f32) :=
  stackOn base 16 (fun n h => ⟨Rect.unit ![0, o + n, 0] S1x1x128.size (inbScale (by omega)),
    shapeCast S1x1x128 (scaleB S1x128 broadcasts_S1x1_S1x128 (blkV a ha x n h)) shapeCasts_S1x128_S1x1x128⟩) 16 le_rfl

/-- The queries' codes. -/
theorem h4_eq : kernelRun0_A.sl.H4_16 c arg2 harg2 x0 = codesL arg2 harg2 x0 := (rfl)

/-- The keys' codes. -/
theorem h5_eq : kernelRun0_A.sl.H5_16 c arg3 harg3 x1 = codesL arg3 harg3 x1 := (rfl)

/-- The values' transposed codes. -/
theorem hs0_eq : kernelRun0_A.sl.HS0_16 c arg4 harg4 x2 = codesTL arg4 harg4 x2 := (rfl)

/-- The keys' scales. -/
theorem hs1_eq : kernelRun0_A.sl.HS1_16 c arg3 harg3 x1 = rowsL arg3 harg3 x1 := (rfl)

/-- The values' scales. -/
theorem hs2_eq : kernelRun0_A.sl.HS2_16 c arg4 harg4 x2 = rowsL arg4 harg4 x2 := (rfl)

/-- The queries' scales. -/
theorem hs3_eq : kernelRun0_A.sl.HS3_16 c arg2 harg2 x0 = lanesL arg2 harg2 x0 := (rfl)

/-- The buffers of the run. -/
def env : Env := ⟨arg6, arg7, arg10, arg11, arg12, arg13, arg14, arg15, arg16, arg17, arg18, arg19, arg20, arg21,
  kernelRun0_A.sl.H4_16 c arg2 harg2 x0, kernelRun0_A.sl.H5_16 c arg3 harg3 x1, kernelRun0_A.sl.HS0_16 c arg4 harg4 x2,
  kernelRun0_A.sl.HS1_16 c arg3 harg3 x1, kernelRun0_A.sl.HS2_16 c arg4 harg4 x2, kernelRun0_A.sl.HS3_16 c arg2 harg2 x0⟩

/-- The writes after tile 0 of the run. -/
def lists0 : Lists := ⟨kernelRun0_A.sl.HS4_2 c arg2 harg2 arg3 harg3 arg6 arg7 x0 x1,
    kernelRun0_A.sl.HS5_2 c arg2 harg2 arg3 harg3 arg6 arg7 x0 x1,
    kernelRun0_A.sl.HS6_1 c arg2 harg2 arg3 harg3 arg11 arg13 x0 x1,
    kernelRun0_A.sl.HS7_1 c arg2 harg2 arg3 harg3 arg6 arg7 arg11 arg13 arg15 x0 x1,
    kernelRun0_A.sl.HS8_1 c arg2 harg2 arg3 harg3 arg4 harg4 arg6 arg7 arg11 arg12 arg13 arg15 x0 x1 x2,
    kernelRun0_A.sl.HS9_1 c arg2 harg2 arg3 harg3 arg6 arg7 arg11 arg13 arg15 x0 x1,
    kernelRun0_A.sl.HS10_2 c arg2 harg2 arg3 harg3 arg6 arg7 arg11 arg13 arg14 arg15 arg16 arg17 x0 x1,
    kernelRun0_A.sl.HS11_2 c arg2 harg2 arg3 harg3 arg4 harg4 arg6 arg7 arg10 arg11 arg12 arg13 arg14 arg15 arg16 arg17 arg18 arg21 x0 x1 x2⟩

/-- The writes after tile 1 of the run. -/
def lists1 : Lists := ⟨kernelRun0_A.sl.HS4_6 c arg2 harg2 arg3 harg3 arg6 arg7 x0 x1,
    kernelRun0_A.sl.HS5_6 c arg2 harg2 arg3 harg3 arg6 arg7 x0 x1,
    kernelRun0_A.sl.HS6_2 c arg2 harg2 arg3 harg3 arg11 arg13 x0 x1,
    kernelRun0_A.sl.HS7_2 c arg2 harg2 arg3 harg3 arg6 arg7 arg11 arg13 arg15 x0 x1,
    kernelRun0_A.sl.HS8_2 c arg2 harg2 arg3 harg3 arg4 harg4 arg6 arg7 arg11 arg12 arg13 arg15 x0 x1 x2,
    kernelRun0_A.sl.HS9_2 c arg2 harg2 arg3 harg3 arg6 arg7 arg11 arg13 arg15 x0 x1,
    kernelRun0_A.sl.HS10_6 c arg2 harg2 arg3 harg3 arg6 arg7 arg11 arg13 arg14 arg15 arg16 arg17 x0 x1,
    kernelRun0_A.sl.HS11_6 c arg2 harg2 arg3 harg3 arg4 harg4 arg6 arg7 arg10 arg11 arg12 arg13 arg14 arg15 arg16 arg17 arg18 arg21 x0 x1 x2⟩

/-- The writes after tile 2 of the run. -/
def lists2 : Lists := ⟨kernelRun0_A.sl.HS4_12 c arg2 harg2 arg3 harg3 arg6 arg7 x0 x1,
    kernelRun0_A.sl.HS5_12 c arg2 harg2 arg3 harg3 arg6 arg7 x0 x1,
    kernelRun0_A.sl.HS6_3 c arg2 harg2 arg3 harg3 arg11 arg13 x0 x1,
    kernelRun0_A.sl.HS7_3 c arg2 harg2 arg3 harg3 arg6 arg7 arg11 arg13 arg15 x0 x1,
    kernelRun0_A.sl.HS8_3 c arg2 harg2 arg3 harg3 arg4 harg4 arg6 arg7 arg11 arg12 arg13 arg15 x0 x1 x2,
    kernelRun0_A.sl.HS9_3 c arg2 harg2 arg3 harg3 arg6 arg7 arg11 arg13 arg15 x0 x1,
    kernelRun0_A.sl.HS10_12 c arg2 harg2 arg3 harg3 arg6 arg7 arg11 arg13 arg14 arg15 arg16 arg17 x0 x1,
    kernelRun0_A.sl.HS11_12 c arg2 harg2 arg3 harg3 arg4 harg4 arg6 arg7 arg10 arg11 arg12 arg13 arg14 arg15 arg16 arg17 arg18 arg21 x0 x1 x2⟩

/-- The writes after tile 3 of the run. -/
def lists3 : Lists := ⟨kernelRun0_A.sl.HS4_20 c arg2 harg2 arg3 harg3 arg6 arg7 x0 x1,
    kernelRun0_A.sl.HS5_20 c arg2 harg2 arg3 harg3 arg6 arg7 x0 x1,
    kernelRun0_A.sl.HS6_4 c arg2 harg2 arg3 harg3 arg11 arg13 x0 x1,
    kernelRun0_A.sl.HS7_4 c arg2 harg2 arg3 harg3 arg6 arg7 arg11 arg13 arg15 x0 x1,
    kernelRun0_A.sl.HS8_4 c arg2 harg2 arg3 harg3 arg4 harg4 arg6 arg7 arg11 arg12 arg13 arg15 x0 x1 x2,
    kernelRun0_A.sl.HS9_4 c arg2 harg2 arg3 harg3 arg6 arg7 arg11 arg13 arg15 x0 x1,
    kernelRun0_A.sl.HS10_20 c arg2 harg2 arg3 harg3 arg6 arg7 arg11 arg13 arg14 arg15 arg16 arg17 x0 x1,
    kernelRun0_A.sl.HS11_20 c arg2 harg2 arg3 harg3 arg4 harg4 arg6 arg7 arg10 arg11 arg12 arg13 arg14 arg15 arg16 arg17 arg18 arg21 x0 x1 x2⟩

/-- The writes after tile 4 of the run. -/
def lists4 : Lists := ⟨kernelRun0_A.sl.HS4_30 c arg2 harg2 arg3 harg3 arg6 arg7 x0 x1,
    kernelRun0_A.sl.HS5_30 c arg2 harg2 arg3 harg3 arg6 arg7 x0 x1,
    kernelRun0_A.sl.HS6_5 c arg2 harg2 arg3 harg3 arg11 arg13 x0 x1,
    kernelRun0_A.sl.HS7_5 c arg2 harg2 arg3 harg3 arg6 arg7 arg11 arg13 arg15 x0 x1,
    kernelRun0_A.sl.HS8_5 c arg2 harg2 arg3 harg3 arg4 harg4 arg6 arg7 arg11 arg12 arg13 arg15 x0 x1 x2,
    kernelRun0_A.sl.HS9_5 c arg2 harg2 arg3 harg3 arg6 arg7 arg11 arg13 arg15 x0 x1,
    kernelRun0_A.sl.HS10_30 c arg2 harg2 arg3 harg3 arg6 arg7 arg11 arg13 arg14 arg15 arg16 arg17 x0 x1,
    kernelRun0_A.sl.HS11_30 c arg2 harg2 arg3 harg3 arg4 harg4 arg6 arg7 arg10 arg11 arg12 arg13 arg14 arg15 arg16 arg17 arg18 arg21 x0 x1 x2⟩

/-- The writes after tile 5 of the run. -/
def lists5 : Lists := ⟨kernelRun0_A.sl.HS4_42 c arg2 harg2 arg3 harg3 arg6 arg7 x0 x1,
    kernelRun0_A.sl.HS5_42 c arg2 harg2 arg3 harg3 arg6 arg7 x0 x1,
    kernelRun0_A.sl.HS6_6 c arg2 harg2 arg3 harg3 arg11 arg13 x0 x1,
    kernelRun0_A.sl.HS7_6 c arg2 harg2 arg3 harg3 arg6 arg7 arg11 arg13 arg15 x0 x1,
    kernelRun0_A.sl.HS8_6 c arg2 harg2 arg3 harg3 arg4 harg4 arg6 arg7 arg11 arg12 arg13 arg15 x0 x1 x2,
    kernelRun0_A.sl.HS9_6 c arg2 harg2 arg3 harg3 arg6 arg7 arg11 arg13 arg15 x0 x1,
    kernelRun0_A.sl.HS10_42 c arg2 harg2 arg3 harg3 arg6 arg7 arg11 arg13 arg14 arg15 arg16 arg17 x0 x1,
    kernelRun0_A.sl.HS11_42 c arg2 harg2 arg3 harg3 arg4 harg4 arg6 arg7 arg10 arg11 arg12 arg13 arg14 arg15 arg16 arg17 arg18 arg21 x0 x1 x2⟩

/-- The writes after tile 6 of the run. -/
def lists6 : Lists := ⟨kernelRun0_A.sl.HS4_56 c arg2 harg2 arg3 harg3 arg6 arg7 x0 x1,
    kernelRun0_A.sl.HS5_56 c arg2 harg2 arg3 harg3 arg6 arg7 x0 x1,
    kernelRun0_A.sl.HS6_7 c arg2 harg2 arg3 harg3 arg11 arg13 x0 x1,
    kernelRun0_A.sl.HS7_7 c arg2 harg2 arg3 harg3 arg6 arg7 arg11 arg13 arg15 x0 x1,
    kernelRun0_A.sl.HS8_7 c arg2 harg2 arg3 harg3 arg4 harg4 arg6 arg7 arg11 arg12 arg13 arg15 x0 x1 x2,
    kernelRun0_A.sl.HS9_7 c arg2 harg2 arg3 harg3 arg6 arg7 arg11 arg13 arg15 x0 x1,
    kernelRun0_A.sl.HS10_56 c arg2 harg2 arg3 harg3 arg6 arg7 arg11 arg13 arg14 arg15 arg16 arg17 x0 x1,
    kernelRun0_A.sl.HS11_56 c arg2 harg2 arg3 harg3 arg4 harg4 arg6 arg7 arg10 arg11 arg12 arg13 arg14 arg15 arg16 arg17 arg18 arg21 x0 x1 x2⟩

/-- The writes after tile 7 of the run. -/
def lists7 : Lists := ⟨kernelRun0_A.sl.HS4_72 c arg2 harg2 arg3 harg3 arg6 arg7 x0 x1,
    kernelRun0_A.sl.HS5_72 c arg2 harg2 arg3 harg3 arg6 arg7 x0 x1,
    kernelRun0_A.sl.HS6_8 c arg2 harg2 arg3 harg3 arg11 arg13 x0 x1,
    kernelRun0_A.sl.HS7_8 c arg2 harg2 arg3 harg3 arg6 arg7 arg11 arg13 arg15 x0 x1,
    kernelRun0_A.sl.HS8_8 c arg2 harg2 arg3 harg3 arg4 harg4 arg6 arg7 arg11 arg12 arg13 arg15 x0 x1 x2,
    kernelRun0_A.sl.HS9_8 c arg2 harg2 arg3 harg3 arg6 arg7 arg11 arg13 arg15 x0 x1,
    kernelRun0_A.sl.HS10_72 c arg2 harg2 arg3 harg3 arg6 arg7 arg11 arg13 arg14 arg15 arg16 arg17 x0 x1,
    kernelRun0_A.sl.HS11_72 c arg2 harg2 arg3 harg3 arg4 harg4 arg6 arg7 arg10 arg11 arg12 arg13 arg14 arg15 arg16 arg17 arg18 arg21 x0 x1 x2⟩

/-- Tile 0 of the run. -/
theorem isTile0 : IsTile (env c arg2 harg2 arg3 harg3 arg4 harg4 arg6 arg7 arg10 arg11 arg12 arg13 arg14 arg15 arg16 arg17 arg18 arg19 arg20 arg21 x0 x1 x2) 0 (by decide) (evT 0) ⟨[], [], [], [], [], [], [], []⟩ (lists0 c arg2 harg2 arg3 harg3 arg4 harg4 arg6 arg7 arg10 arg11 arg12 arg13 arg14 arg15 arg16 arg17 arg18 arg21 x0 x1 x2) where
  h4 := (rfl)
  h5 := (rfl)
  h6 := (rfl)
  h7 := (rfl)
  h8 := (rfl)
  h9 := (rfl)
  h10 := (rfl)
  h11 := by
    iterate 1 refine AccL.succ (by decide) ?_
    exact AccL.zero (by decide)

/-- Tile 1 of the run. -/
theorem isTile1 : IsTile (env c arg2 harg2 arg3 harg3 arg4 harg4 arg6 arg7 arg10 arg11 arg12 arg13 arg14 arg15 arg16 arg17 arg18 arg19 arg20 arg21 x0 x1 x2) 1 (by decide) (evT 1) (lists0 c arg2 harg2 arg3 harg3 arg4 harg4 arg6 arg7 arg10 arg11 arg12 arg13 arg14 arg15 arg16 arg17 arg18 arg21 x0 x1 x2) (lists1 c arg2 harg2 arg3 harg3 arg4 harg4 arg6 arg7 arg10 arg11 arg12 arg13 arg14 arg15 arg16 arg17 arg18 arg21 x0 x1 x2) where
  h4 := (rfl)
  h5 := (rfl)
  h6 := (rfl)
  h7 := (rfl)
  h8 := (rfl)
  h9 := (rfl)
  h10 := (rfl)
  h11 := by
    iterate 3 refine AccL.succ (by decide) ?_
    exact AccL.zero (by decide)

/-- Tile 2 of the run. -/
theorem isTile2 : IsTile (env c arg2 harg2 arg3 harg3 arg4 harg4 arg6 arg7 arg10 arg11 arg12 arg13 arg14 arg15 arg16 arg17 arg18 arg19 arg20 arg21 x0 x1 x2) 2 (by decide) (evT 2) (lists1 c arg2 harg2 arg3 harg3 arg4 harg4 arg6 arg7 arg10 arg11 arg12 arg13 arg14 arg15 arg16 arg17 arg18 arg21 x0 x1 x2) (lists2 c arg2 harg2 arg3 harg3 arg4 harg4 arg6 arg7 arg10 arg11 arg12 arg13 arg14 arg15 arg16 arg17 arg18 arg21 x0 x1 x2) where
  h4 := (rfl)
  h5 := (rfl)
  h6 := (rfl)
  h7 := (rfl)
  h8 := (rfl)
  h9 := (rfl)
  h10 := (rfl)
  h11 := by
    iterate 5 refine AccL.succ (by decide) ?_
    exact AccL.zero (by decide)

/-- Tile 3 of the run. -/
theorem isTile3 : IsTile (env c arg2 harg2 arg3 harg3 arg4 harg4 arg6 arg7 arg10 arg11 arg12 arg13 arg14 arg15 arg16 arg17 arg18 arg19 arg20 arg21 x0 x1 x2) 3 (by decide) (evT 3) (lists2 c arg2 harg2 arg3 harg3 arg4 harg4 arg6 arg7 arg10 arg11 arg12 arg13 arg14 arg15 arg16 arg17 arg18 arg21 x0 x1 x2) (lists3 c arg2 harg2 arg3 harg3 arg4 harg4 arg6 arg7 arg10 arg11 arg12 arg13 arg14 arg15 arg16 arg17 arg18 arg21 x0 x1 x2) where
  h4 := (rfl)
  h5 := (rfl)
  h6 := (rfl)
  h7 := (rfl)
  h8 := (rfl)
  h9 := (rfl)
  h10 := (rfl)
  h11 := by
    iterate 7 refine AccL.succ (by decide) ?_
    exact AccL.zero (by decide)

/-- Tile 4 of the run. -/
theorem isTile4 : IsTile (env c arg2 harg2 arg3 harg3 arg4 harg4 arg6 arg7 arg10 arg11 arg12 arg13 arg14 arg15 arg16 arg17 arg18 arg19 arg20 arg21 x0 x1 x2) 4 (by decide) (evT 4) (lists3 c arg2 harg2 arg3 harg3 arg4 harg4 arg6 arg7 arg10 arg11 arg12 arg13 arg14 arg15 arg16 arg17 arg18 arg21 x0 x1 x2) (lists4 c arg2 harg2 arg3 harg3 arg4 harg4 arg6 arg7 arg10 arg11 arg12 arg13 arg14 arg15 arg16 arg17 arg18 arg21 x0 x1 x2) where
  h4 := (rfl)
  h5 := (rfl)
  h6 := (rfl)
  h7 := (rfl)
  h8 := (rfl)
  h9 := (rfl)
  h10 := (rfl)
  h11 := by
    iterate 9 refine AccL.succ (by decide) ?_
    exact AccL.zero (by decide)

/-- Tile 5 of the run. -/
theorem isTile5 : IsTile (env c arg2 harg2 arg3 harg3 arg4 harg4 arg6 arg7 arg10 arg11 arg12 arg13 arg14 arg15 arg16 arg17 arg18 arg19 arg20 arg21 x0 x1 x2) 5 (by decide) (evT 5) (lists4 c arg2 harg2 arg3 harg3 arg4 harg4 arg6 arg7 arg10 arg11 arg12 arg13 arg14 arg15 arg16 arg17 arg18 arg21 x0 x1 x2) (lists5 c arg2 harg2 arg3 harg3 arg4 harg4 arg6 arg7 arg10 arg11 arg12 arg13 arg14 arg15 arg16 arg17 arg18 arg21 x0 x1 x2) where
  h4 := (rfl)
  h5 := (rfl)
  h6 := (rfl)
  h7 := (rfl)
  h8 := (rfl)
  h9 := (rfl)
  h10 := (rfl)
  h11 := by
    iterate 11 refine AccL.succ (by decide) ?_
    exact AccL.zero (by decide)

/-- Tile 6 of the run. -/
theorem isTile6 : IsTile (env c arg2 harg2 arg3 harg3 arg4 harg4 arg6 arg7 arg10 arg11 arg12 arg13 arg14 arg15 arg16 arg17 arg18 arg19 arg20 arg21 x0 x1 x2) 6 (by decide) (evT 6) (lists5 c arg2 harg2 arg3 harg3 arg4 harg4 arg6 arg7 arg10 arg11 arg12 arg13 arg14 arg15 arg16 arg17 arg18 arg21 x0 x1 x2) (lists6 c arg2 harg2 arg3 harg3 arg4 harg4 arg6 arg7 arg10 arg11 arg12 arg13 arg14 arg15 arg16 arg17 arg18 arg21 x0 x1 x2) where
  h4 := (rfl)
  h5 := (rfl)
  h6 := (rfl)
  h7 := (rfl)
  h8 := (rfl)
  h9 := (rfl)
  h10 := (rfl)
  h11 := by
    iterate 13 refine AccL.succ (by decide) ?_
    exact AccL.zero (by decide)

/-- Tile 7 of the run. -/
theorem isTile7 : IsTile (env c arg2 harg2 arg3 harg3 arg4 harg4 arg6 arg7 arg10 arg11 arg12 arg13 arg14 arg15 arg16 arg17 arg18 arg19 arg20 arg21 x0 x1 x2) 7 (by decide) (evT 7) (lists6 c arg2 harg2 arg3 harg3 arg4 harg4 arg6 arg7 arg10 arg11 arg12 arg13 arg14 arg15 arg16 arg17 arg18 arg21 x0 x1 x2) (lists7 c arg2 harg2 arg3 harg3 arg4 harg4 arg6 arg7 arg10 arg11 arg12 arg13 arg14 arg15 arg16 arg17 arg18 arg21 x0 x1 x2) where
  h4 := (rfl)
  h5 := (rfl)
  h6 := (rfl)
  h7 := (rfl)
  h8 := (rfl)
  h9 := (rfl)
  h10 := (rfl)
  h11 := by
    iterate 15 refine AccL.succ (by decide) ?_
    exact AccL.zero (by decide)

end Cert.KernelIdeal.Attn
-- ==== Proof.Outs.lean ====
/-
  What each of the kernel's five result windows holds, as lists of writes.
-/
module

public import proofs.«01_k».proof.Proof.Pieces
public import proofs.«01_k».proof.Proof.Gen.KernelIdeal.Frame

@[expose] public section

set_option maxRecDepth 16384

noncomputable section

namespace Cert.KernelIdeal.Attn

open Idealize.ShloMosaic Cert.KernelIdeal Cert.KernelIdeal.Gen

variable (c : Dev nD) (i : grid0.Coords)
  (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x2048x128 .fp8e4m3) (harg7 : arg7.IsWhole)
  (arg8 : Memref sig .tc .vmem S1x2048x128 .fp8e4m3) (harg8 : arg8.IsWhole)
  (arg9 : Memref sig .tc .vmem S1x48x128 .f32) (harg9 : arg9.IsWhole)
  (arg10 : Memref sig .tc .vmem S128x2048 .fp8e4m3) (harg10 : arg10.IsWhole)
  (arg11 : Memref sig .tc .vmem S16x256 .f32) (harg11 : arg11.IsWhole)
  (arg12 : Memref sig .tc .vmem S16x256 .f32) (harg12 : arg12.IsWhole)
  (arg13 : Memref sig .tc .vmem S1x2048 .f32) (harg13 : arg13.IsWhole)
  (arg14 : Memref sig .tc .vmem S16x128x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (arg18 : Memref sig .tc .vmem S16x256 .f32) (harg18 : arg18.IsWhole)
  (arg19 : Memref sig .tc .vmem S16x256 .f32) (harg19 : arg19.IsWhole)
  (arg20 : Memref sig .tc .vmem S16x256 .f32) (harg20 : arg20.IsWhole)
  (arg21 : Memref sig .tc .vmem S128x256 .f32) (harg21 : arg21.IsWhole)
  (x0 x1 x2 : Vec Ideal S1x2048x128 .bf16)

/-- A tile's results as a piece. -/
def yP (V : Env) (j : ℕ) (hj : j < 8) (E : EvT (2 * j + 2)) (L : Lists) : View.Piece (Elt Ideal) S1x2048x128 .bf16 :=
  ⟨Rect.unit (s := S1x2048x128) ![0, 256 * j, 0] S1x256x128.size (inbTile hj), tileY V j hj E L⟩

/-- The tiles' results. -/
def yL : List (View.Piece (Elt Ideal) S1x2048x128 .bf16) :=
  [yP (env c arg2 harg2 arg3 harg3 arg4 harg4 arg6 arg7 arg10 arg11 arg12 arg13 arg14 arg15 arg16 arg17 arg18 arg19 arg20 arg21 x0 x1 x2) 7 (by decide) (evT 7) (lists7 c arg2 harg2 arg3 harg3 arg4 harg4 arg6 arg7 arg10 arg11 arg12 arg13 arg14 arg15 arg16 arg17 arg18 arg21 x0 x1 x2),
   yP (env c arg2 harg2 arg3 harg3 arg4 harg4 arg6 arg7 arg10 arg11 arg12 arg13 arg14 arg15 arg16 arg17 arg18 arg19 arg20 arg21 x0 x1 x2) 6 (by decide) (evT 6) (lists6 c arg2 harg2 arg3 harg3 arg4 harg4 arg6 arg7 arg10 arg11 arg12 arg13 arg14 arg15 arg16 arg17 arg18 arg21 x0 x1 x2),
   yP (env c arg2 harg2 arg3 harg3 arg4 harg4 arg6 arg7 arg10 arg11 arg12 arg13 arg14 arg15 arg16 arg17 arg18 arg19 arg20 arg21 x0 x1 x2) 5 (by decide) (evT 5) (lists5 c arg2 harg2 arg3 harg3 arg4 harg4 arg6 arg7 arg10 arg11 arg12 arg13 arg14 arg15 arg16 arg17 arg18 arg21 x0 x1 x2),
   yP (env c arg2 harg2 arg3 harg3 arg4 harg4 arg6 arg7 arg10 arg11 arg12 arg13 arg14 arg15 arg16 arg17 arg18 arg19 arg20 arg21 x0 x1 x2) 4 (by decide) (evT 4) (lists4 c arg2 harg2 arg3 harg3 arg4 harg4 arg6 arg7 arg10 arg11 arg12 arg13 arg14 arg15 arg16 arg17 arg18 arg21 x0 x1 x2),
   yP (env c arg2 harg2 arg3 harg3 arg4 harg4 arg6 arg7 arg10 arg11 arg12 arg13 arg14 arg15 arg16 arg17 arg18 arg19 arg20 arg21 x0 x1 x2) 3 (by decide) (evT 3) (lists3 c arg2 harg2 arg3 harg3 arg4 harg4 arg6 arg7 arg10 arg11 arg12 arg13 arg14 arg15 arg16 arg17 arg18 arg21 x0 x1 x2),
   yP (env c arg2 harg2 arg3 harg3 arg4 harg4 arg6 arg7 arg10 arg11 arg12 arg13 arg14 arg15 arg16 arg17 arg18 arg19 arg20 arg21 x0 x1 x2) 2 (by decide) (evT 2) (lists2 c arg2 harg2 arg3 harg3 arg4 harg4 arg6 arg7 arg10 arg11 arg12 arg13 arg14 arg15 arg16 arg17 arg18 arg21 x0 x1 x2),
   yP (env c arg2 harg2 arg3 harg3 arg4 harg4 arg6 arg7 arg10 arg11 arg12 arg13 arg14 arg15 arg16 arg17 arg18 arg19 arg20 arg21 x0 x1 x2) 1 (by decide) (evT 1) (lists1 c arg2 harg2 arg3 harg3 arg4 harg4 arg6 arg7 arg10 arg11 arg12 arg13 arg14 arg15 arg16 arg17 arg18 arg21 x0 x1 x2),
   yP (env c arg2 harg2 arg3 harg3 arg4 harg4 arg6 arg7 arg10 arg11 arg12 arg13 arg14 arg15 arg16 arg17 arg18 arg19 arg20 arg21 x0 x1 x2) 0 (by decide) (evT 0) (lists0 c arg2 harg2 arg3 harg3 arg4 harg4 arg6 arg7 arg10 arg11 arg12 arg13 arg14 arg15 arg16 arg17 arg18 arg21 x0 x1 x2)]

/-- The first result's writes. -/
theorem comp3 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2).1 = yL c arg2 harg2 arg3 harg3 arg4 harg4 arg6 arg7 arg10 arg11 arg12 arg13 arg14 arg15 arg16 arg17 arg18 arg19 arg20 arg21 x0 x1 x2 := (rfl)

/-- The second result's writes. -/
theorem comp4 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2).2.1 = codesL arg2 harg2 x0 := (rfl)

/-- The third result's writes. -/
theorem comp5 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2).2.2.1 = codesL arg3 harg3 x1 := (rfl)

/-- The fourth result's writes. -/
theorem comp6 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2).2.2.2.1 = codesL arg4 harg4 x2 := (rfl)

/-- The fifth result's writes. -/
theorem comp7 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2).2.2.2.2.1 = scalesL (scalesL (scalesL [] 0 (by omega) arg2 harg2 x0) 16 (by omega) arg3 harg3 x1) 32 (by omega) arg4 harg4 x2 := (rfl)

end Cert.KernelIdeal.Attn
-- ==== Proof.Exponent.lean ====
/-
  The power-of-two quantiser's numbers over the extended reals: the exponent a kernel finds by counting the powers
  of two that a value reaches, the exponent a logarithm gives, and the scale and the code each makes of it.
-/
module

public import Idealize.ShloMosaic.Lib.Pointwise
public import Mathlib.Analysis.SpecialFunctions.Pow.Real

@[expose] public section

noncomputable section

namespace Attn

open Idealize.ShloMosaic

/-- A finite sum of reals is their sum in the extended reals. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The exponent as a count -/

/-- The float whose bits are `t + 1` in the exponent field and zero elsewhere. -/
def powerAt (t : Fin 255) : EReal :=
  Ideal.ofBits .f32 (IntOp.shli .vector (IntOp.addi (BitVec.ofNat 32 t.val) 1#32) 23#32)

/-- How many of the 255 positive powers of two `y` reaches, as a 32-bit word. -/
def countWord (y : EReal) : BitVec 32 :=
  Ideal.fptosi 32 (∑ t : Fin 255, Scalar.select (Ideal.cmp .oge y (powerAt t)) (1 : EReal) 0)

/-- The exponent word of `y`: zero where no power is reached, else the count less 126. -/
def expWord (y : EReal) : BitVec 32 :=
  Scalar.select (IntOp.cmpi .eq (countWord y) 0#32) 0#32 (IntOp.subi (countWord y) 126#32)

/-- The float whose exponent field is the word `e` plus the bias. -/
def powWord (e : BitVec 32) : EReal :=
  Ideal.ofBits .f32 (IntOp.shli .vector (IntOp.addi e 127#32) 23#32)

/-- The same exponent as a logarithm gives it. -/
def expLog (y : EReal) : EReal :=
  Scalar.select (Ideal.cmp .olt y (Ideal.ofBits .f32 0x00800000#32)) (0 : EReal)
    (Ideal.liftRound Int.floor (Ideal.div (Ideal.log y) ((Real.log 2 : ℝ) : EReal)) + 1)

/-- The floor of the base-2 logarithm. -/
def ilog (r : ℝ) : ℤ := ⌊Real.log r / Real.log 2⌋

/-- A power of two is reached by `r` when its exponent is at most the floor of the logarithm. -/
theorem zpow_le_iff (x : ℤ) {r : ℝ} (hr : 0 < r) : (2 : ℝ) ^ x ≤ r ↔ x ≤ ilog r := by
  unfold ilog
  rw [Int.le_floor, le_div_iff₀ (Real.log_pos (by norm_num)), ← Real.log_zpow,
    Real.log_le_log_iff (by positivity) hr]

/-- A power of two is above `r` when its exponent is above the floor of the logarithm. -/
theorem lt_zpow_iff (x : ℤ) {r : ℝ} (hr : 0 < r) : r < (2 : ℝ) ^ x ↔ ilog r < x := by
  rw [← not_le, zpow_le_iff x hr, not_le]

/-- The exponent as an integer of a real `r`. -/
def expInt (r : ℝ) : ℤ := if r < 2 ^ (-126 : ℤ) then 0 else ilog r + 1

/-- The fields of a word that carries only an exponent. -/
theorem fields (n : Fin 256) :
    (((BitVec.ofNat 32 n.val) <<< 23).extractLsb' 31 1 == 1#1) = false
    ∧ (((BitVec.ofNat 32 n.val) <<< 23).extractLsb' 23 8).toNat = n.val
    ∧ (((BitVec.ofNat 32 n.val) <<< 23).extractLsb' 0 23).toNat = 0 := by
  revert n; decide +kernel

/-- A word that carries only an exponent from 1 to 254 denotes that power of two. -/
theorem ieee_pow (n : ℕ) (h0 : 0 < n) (h : n < 255) :
    Ideal.ofBits .f32 ((BitVec.ofNat 32 n) <<< 23) = (((2 : ℝ) ^ ((n : ℤ) - 127) : ℝ) : EReal) := by
  obtain ⟨h1, h2, h3⟩ := fields ⟨n, by omega⟩
  have hb : ∀ b : BitVec 32, Ideal.ofBits .f32 b = Ideal.ieee 8 23 b := fun _ => rfl
  rw [hb]
  simp only at h1 h2 h3
  unfold Ideal.ieee
  simp only [Nat.reduceAdd, h1, h2, h3]
  rw [if_neg (by norm_num; omega), if_neg (by omega), EReal.coe_eq_coe_iff]
  have : ((n : ℤ) - 127) = (23 : ℤ) + ((n : ℤ) - (2 ^ (8 - 1) - 1) - (23 : ℕ)) := by norm_num
  rw [this, zpow_add₀ (by norm_num)]
  norm_num

/-- A word whose exponent field is all ones denotes `⊤`. -/
theorem ieee_top : Ideal.ofBits .f32 ((BitVec.ofNat 32 255) <<< 23) = ⊤ := by
  obtain ⟨h1, h2, h3⟩ := fields ⟨255, by omega⟩
  have hb : ∀ b : BitVec 32, Ideal.ofBits .f32 b = Ideal.ieee 8 23 b := fun _ => rfl
  rw [hb]
  simp only at h1 h2 h3
  unfold Ideal.ieee
  simp only [Nat.reduceAdd, h1, h2, h3]
  norm_num

/-- `powerAt t` is the `t + 1`st power of two, or `⊤` past the last finite one. -/
theorem powerAt_eq (t : Fin 255) :
    powerAt t = if t.val = 254 then ⊤ else (((2 : ℝ) ^ ((t.val : ℤ) - 126) : ℝ) : EReal) := by
  have hw : IntOp.shli .vector (IntOp.addi (BitVec.ofNat 32 t.val) 1#32) 23#32
      = (BitVec.ofNat 32 (t.val + 1)) <<< 23 := by revert t; decide +kernel
  unfold powerAt
  rw [hw]
  split
  · next h => rw [h]; exact ieee_top
  · next h =>
    rw [ieee_pow _ (by omega) (by omega)]
    congr 2
    push_cast; ring

/-- `powWord` of an integer between −126 and 127 is that power of two. -/
theorem powWord_ofInt (e : ℤ) (h0 : -126 ≤ e) (h1 : e ≤ 127) :
    powWord (BitVec.ofInt 32 e) = (((2 : ℝ) ^ e : ℝ) : EReal) := by
  obtain ⟨n, hn⟩ : ∃ n : ℕ, e = (n : ℤ) - 127 := ⟨(e + 127).toNat, by omega⟩
  subst hn
  have hw : IntOp.shli .vector (IntOp.addi (BitVec.ofInt 32 ((n : ℤ) - 127)) 127#32) 23#32
      = (BitVec.ofNat 32 n) <<< 23 := by
    have : ∀ k : Fin 255, IntOp.shli .vector (IntOp.addi (BitVec.ofInt 32 ((k.val : ℤ) - 127)) 127#32) 23#32
      = (BitVec.ofNat 32 k.val) <<< 23 := by decide +kernel
    exact this ⟨n, by omega⟩
  unfold powWord
  rw [hw, ieee_pow _ (by omega) (by omega)]

/-- How many exponents below 255 the condition `t < c` holds of. -/
theorem sum_lt (c : ℕ) (hc : c ≤ 255) :
    (∑ t : Fin 255, (if t.val < c then (1 : EReal) else 0)) = ((c : ℝ) : EReal) := by
  have h : (∑ t : Fin 255, (if t.val < c then (1 : ℝ) else 0)) = (c : ℝ) := by
    rw [Fin.sum_univ_eq_sum_range (fun t => if t < c then (1 : ℝ) else 0) 255, ← Finset.sum_filter]
    have : (Finset.range 255).filter (fun t => t < c) = Finset.range c := by
      ext t; simp; omega
    rw [this]; simp
  rw [← h, coe_sum]
  refine Finset.sum_congr rfl fun t _ => ?_
  split <;> simp

/-- Every value at least one and below `2 ^ 128`'s count. -/
theorem countWord_eq (r : ℝ) (c : ℕ) (hc : c ≤ 254)
    (h : ∀ t : ℕ, t < 254 → ((2 : ℝ) ^ ((t : ℤ) - 126) ≤ r ↔ t < c)) :
    countWord (r : EReal) = BitVec.ofNat 32 c := by
  unfold countWord
  have : ∀ t : Fin 255, Scalar.select (Ideal.cmp .oge (r : EReal) (powerAt t)) (1 : EReal) 0
      = if t.val < c then (1 : EReal) else 0 := by
    intro t
    rw [powerAt_eq]
    unfold Scalar.select Ideal.cmp
    by_cases ht : t.val = 254
    · have hlt : ¬ t.val < c := by omega
      rw [if_pos ht, if_neg hlt]
      simp
    · rw [if_neg ht]
      have := h t.val (by omega)
      simp only [EReal.coe_le_coe_iff, this]
      by_cases hlt : t.val < c <;> simp [hlt]
  rw [Finset.sum_congr rfl fun t _ => this t, sum_lt c (by omega)]
  unfold Ideal.fptosi
  rw [Ideal.toIntClamped_coe]
  have hc0 : (0 : ℝ) ≤ (c : ℝ) := by positivity
  rw [if_pos hc0, Int.floor_natCast]
  have : max (-(2 ^ (32 - 1) : ℕ) : ℤ) (min ((2 ^ (32 - 1) : ℕ) - 1) (c : ℤ)) = c := by
    norm_num; omega
  rw [this, BitVec.ofInt_natCast]

/-- The exponent word of a nonnegative real below `2 ^ 127` is its integer exponent. -/
theorem expWord_eq (r : ℝ) (h : r < 2 ^ (127 : ℤ)) :
    expWord (r : EReal) = BitVec.ofInt 32 (expInt r) := by
  unfold expWord expInt
  split
  · next hr =>
    rw [countWord_eq r 0 (by omega)]
    · rfl
    · intro t ht
      constructor
      · intro hle
        exfalso
        have : (2 : ℝ) ^ (-126 : ℤ) ≤ 2 ^ ((t : ℤ) - 126) := zpow_le_zpow_right₀ (by norm_num) (by omega)
        linarith
      · intro h; omega
  · next hr =>
    have hr := not_lt.1 hr
    have hpos : 0 < r := lt_of_lt_of_le (by positivity) hr
    have hlo : -126 ≤ ilog r := by
      exact (zpow_le_iff _ hpos).1 hr
    have hhi : ilog r < 127 := by
      exact (lt_zpow_iff _ hpos).1 h
    obtain ⟨c, hc⟩ : ∃ c : ℕ, ilog r = (c : ℤ) - 127 := ⟨(ilog r + 127).toNat, by omega⟩
    rw [countWord_eq r c (by omega)]
    · rw [hc]
      have : ∀ k : Fin 255, k.val ≠ 0 →
          Scalar.select (IntOp.cmpi .eq (BitVec.ofNat 32 k.val) 0#32) 0#32 (IntOp.subi (BitVec.ofNat 32 k.val) 126#32)
          = BitVec.ofInt 32 ((k.val : ℤ) - 127 + 1) := by decide +kernel
      exact this ⟨c, by omega⟩ (by simp only [ne_eq]; omega)
    · intro t ht
      rw [zpow_le_iff _ hpos, hc]; omega

/-- The logarithm's exponent of a nonnegative real is its integer exponent. -/
theorem expLog_eq (r : ℝ) : expLog (r : EReal) = ((expInt r : ℝ) : EReal) := by
  unfold expLog expInt
  have hmin : Ideal.ofBits .f32 0x00800000#32 = (((2 : ℝ) ^ (-126 : ℤ) : ℝ) : EReal) := by
    have := ieee_pow 1 (by omega) (by omega)
    exact this
  rw [hmin]
  unfold Scalar.select Ideal.cmp
  by_cases hr : r < 2 ^ (-126 : ℤ)
  · simp only [EReal.coe_lt_coe_iff, hr]
    simp
  · simp only [EReal.coe_lt_coe_iff, hr]
    simp only [decide_false, BitVec.ofBool_false]
    have hr := not_lt.1 hr
    have hpos : 0 < r := lt_of_lt_of_le (by positivity) hr
    rw [if_neg (by decide), if_neg (by simp), Ideal.log_coe, if_neg (by linarith)]
    have hl2 : Real.log 2 ≠ 0 := (Real.log_pos (by norm_num)).ne'
    rw [Ideal.div_coe hl2, ← EReal.coe_mul, Ideal.liftRound_coe]
    have hfl : ⌊Real.log r * (1 / Real.log 2)⌋ = ilog r := by
      unfold ilog
      rw [mul_one_div]
    rw [hfl]
    push_cast
    rfl

/-- The integer exponent of a real below `2 ^ k` is at most `k`, for `k` not negative. -/
theorem expInt_le (r : ℝ) (k : ℤ) (hk : 0 ≤ k) (h : r < 2 ^ k) : expInt r ≤ k := by
  unfold expInt
  split
  · exact hk
  · next hr =>
    have hpos : 0 < r := lt_of_lt_of_le (by positivity) (not_lt.1 hr)
    have : ilog r < k := by
      exact (lt_zpow_iff _ hpos).1 h
    omega

/-- The integer exponent is at least −125. -/
theorem le_expInt (r : ℝ) : -125 ≤ expInt r := by
  unfold expInt
  split
  · omega
  · next hr =>
    have hr := not_lt.1 hr
    have hpos : 0 < r := lt_of_lt_of_le (by positivity) hr
    have hlo : -126 ≤ ilog r := by
      exact (zpow_le_iff _ hpos).1 hr
    omega

/-- The base-2 exponential of an integer is that power of two. -/
theorem exp2_int (e : ℤ) : Ideal.exp2 ((e : ℝ) : EReal) = (((2 : ℝ) ^ e : ℝ) : EReal) := by
  rw [Ideal.exp2_coe]
  congr 1
  exact Real.rpow_intCast 2 e

/-- Negating the exponent's word negates the exponent. -/
theorem neg_ofInt (e : ℤ) : IntOp.subi 0#32 (BitVec.ofInt 32 e) = BitVec.ofInt 32 (-e) := by
  show 0#32 - BitVec.ofInt 32 e = _
  rw [BitVec.ofInt_neg]; simp

/-- The signed value of an exponent's word. -/
theorem toInt_ofInt (e : ℤ) (h0 : -127 ≤ e) (h1 : e ≤ 127) : (BitVec.ofInt 32 e).toInt = e := by
  rw [BitVec.toInt_ofInt]
  unfold Int.bmod
  norm_num
  omega

end Attn
-- ==== Proof.Sem.lean ====
/-
  The attention of one head in real numbers: blocks quantised by powers of two, and per query the softmax weights in base 2,
  quantised block by block, applied to the values' codes.
-/
module

public import proofs.«01_k».proof.Proof.Exponent

@[expose] public section

noncomputable section

namespace Attn

open Idealize.ShloMosaic

/-! ## Constants -/

/-- The float nearest to one in 448. -/
def c448 : ℝ := 9586981 / 2 ^ 32

theorem ofBits_c448 : Ideal.ofBits .f32 0x3B124925#32 = ((c448 : ℝ) : EReal) := by
  have hb : ∀ b : BitVec 32, Ideal.ofBits .f32 b = Ideal.ieee 8 23 b := fun _ => rfl
  rw [hb]
  simp [Ideal.ieee, c448]
  norm_num
  rw [← EReal.coe_mul]
  norm_num

theorem ofBits_448 : Ideal.ofBits .f32 0x43E00000#32 = ((448 : ℝ) : EReal) := by
  have hb : ∀ b : BitVec 32, Ideal.ofBits .f32 b = Ideal.ieee 8 23 b := fun _ => rfl
  rw [hb]
  simp [Ideal.ieee]
  norm_num
  rw [← EReal.coe_mul]
  norm_num

theorem ofBits_m448 : Ideal.ofBits .f32 0xC3E00000#32 = ((-448 : ℝ) : EReal) := by
  have hb : ∀ b : BitVec 32, Ideal.ofBits .f32 b = Ideal.ieee 8 23 b := fun _ => rfl
  rw [hb]
  simp [Ideal.ieee]
  norm_num
  rw [← EReal.coe_mul]
  norm_num

theorem ofBits_bot : Ideal.ofBits .f32 0xFF800000#32 = ⊥ := by
  have hb : ∀ b : BitVec 32, Ideal.ofBits .f32 b = Ideal.ieee 8 23 b := fun _ => rfl
  rw [hb]
  simp [Ideal.ieee]

theorem ofBits_bot16 : Ideal.ofBits .bf16 0xFF80#16 = ⊥ := by
  have hb : ∀ b : BitVec 16, Ideal.ofBits .bf16 b = Ideal.ieee 8 7 b := fun _ => rfl
  rw [hb]
  simp [Ideal.ieee]

theorem c448_pos : 0 < c448 := by norm_num [c448]

theorem c448_lt : c448 < 2 ^ (-8 : ℤ) := by norm_num [c448]

/-! ## Largest elements -/

theorem fold_max_eq {ι : Type*} [Fintype ι] {f : ι → EReal} {b m : EReal} (hb : b ≤ m) (h : ∀ i, f i ≤ m) (he : ∃ i, f i = m) :
    Finset.univ.fold max b f = m := by
  apply le_antisymm
  · rw [Finset.fold_max_le]
    exact ⟨hb, fun i _ => h i⟩
  · obtain ⟨i, hi⟩ := he
    rw [Finset.le_fold_max]
    exact .inr ⟨i, Finset.mem_univ i, hi.ge⟩

/-- The largest element of a finite family. -/
def top {ι : Type*} [Fintype ι] [Nonempty ι] (f : ι → ℝ) : ℝ := Finset.univ.sup' Finset.univ_nonempty f

theorem le_top {ι : Type*} [Fintype ι] [Nonempty ι] (f : ι → ℝ) (i : ι) : f i ≤ top f :=
  Finset.le_sup' f (Finset.mem_univ i)

theorem exists_top {ι : Type*} [Fintype ι] [Nonempty ι] (f : ι → ℝ) : ∃ i, f i = top f := by
  obtain ⟨i, _, hi⟩ := Finset.exists_mem_eq_sup' Finset.univ_nonempty f
  exact ⟨i, hi.symm⟩

theorem fold_max_coe {ι : Type*} [Fintype ι] [Nonempty ι] {f : ι → EReal} {b : EReal} {g : ι → ℝ} (hf : ∀ i, f i = (g i : EReal))
    (hb : b ≤ (top g : ℝ)) : Finset.univ.fold max b f = ((top g : ℝ) : EReal) := by
  refine fold_max_eq hb (fun i => ?_) ?_
  · rw [hf]; exact EReal.coe_le_coe_iff.mpr (le_top g i)
  · obtain ⟨i, hi⟩ := exists_top g
    exact ⟨i, by rw [hf, hi]⟩

/-! ## The quantiser -/

/-- A block of 128 × 128 numbers. -/
abbrev Blk := Fin 128 → Fin 128 → ℝ

/-- The largest absolute value of a block. -/
def amax (b : Blk) : ℝ := top fun p : Fin 128 × Fin 128 => |b p.1 p.2|

/-- The exponent of a block's scale. -/
def qexp (b : Blk) : ℤ := expInt (amax b * c448)

/-- The scale of a block. -/
def scal (b : Blk) : ℝ := 2 ^ qexp b

/-- A number clipped to the code's range. -/
def clip (x : ℝ) : ℝ := min 448 (max (-448) x)

/-- The codes of a block. -/
def code (b : Blk) (k d : Fin 128) : ℝ := clip (b k d * 2 ^ (-qexp b))

theorem amax_nonneg (b : Blk) : 0 ≤ amax b := (abs_nonneg (b 0 0)).trans (le_top (fun p : Fin 128 × Fin 128 => |b p.1 p.2|) (0, 0))

theorem amax_lt {b : Blk} (h : ∀ k d, |b k d| < 2 ^ (128 : ℤ)) : amax b < 2 ^ (128 : ℤ) := by
  obtain ⟨i, hi⟩ := exists_top fun p : Fin 128 × Fin 128 => |b p.1 p.2|
  rw [amax, ← hi]
  exact h _ _

theorem amax_mul_lt {b : Blk} (h : ∀ k d, |b k d| < 2 ^ (128 : ℤ)) : amax b * c448 < 2 ^ (120 : ℤ) := by
  have h1 := amax_lt h
  have h2 := c448_lt
  have h3 := c448_pos
  have h4 := amax_nonneg b
  calc amax b * c448 < 2 ^ (128 : ℤ) * 2 ^ (-8 : ℤ) := by
        apply mul_lt_mul'' h1 h2 h4 h3.le
    _ = 2 ^ (120 : ℤ) := by norm_num

theorem qexp_le {b : Blk} (h : ∀ k d, |b k d| < 2 ^ (128 : ℤ)) : qexp b ≤ 120 := expInt_le _ _ (by norm_num) (amax_mul_lt h)

theorem le_qexp (b : Blk) : -125 ≤ qexp b := le_expInt _

theorem scal_pos (b : Blk) : 0 < scal b := zpow_pos (by norm_num) _

theorem clip_coe (x : ℝ) : min ((448 : ℝ) : EReal) (max ((-448 : ℝ) : EReal) (x : EReal)) = ((clip x : ℝ) : EReal) := by
  rw [clip, EReal.coe_strictMono.monotone.map_min, EReal.coe_strictMono.monotone.map_max]

theorem clip_zero : clip 0 = 0 := by norm_num [clip]

/-! ## The attention of a head -/

/-- The block of a position. -/
def hi (s : Fin 2048) : Fin 16 := ⟨s.val / 128, by omega⟩

/-- The place of a position in its block. -/
def lo (s : Fin 2048) : Fin 128 := ⟨s.val % 128, by omega⟩

variable (X K V : Fin 16 → Blk)

/-- The scale of the base-2 exponents: `1/√128 · 1/log 2`. -/
def kap : ℝ := (Real.sqrt 128)⁻¹ * (Real.log 2)⁻¹

theorem kap_pos : 0 < kap := mul_pos (inv_pos.mpr (Real.sqrt_pos.mpr (by norm_num))) (inv_pos.mpr (Real.log_pos (by norm_num)))

/-- Key `(n, k)` is not after query `s`. -/
def ok (n : Fin 16) (k : Fin 128) (s : Fin 2048) : Prop := 128 * n.val + k.val ≤ s.val

instance (n : Fin 16) (k : Fin 128) (s : Fin 2048) : Decidable (ok n k s) := inferInstanceAs (Decidable (_ ≤ _))

/-- The product of a key's codes with a query's. -/
def S (n : Fin 16) (k : Fin 128) (s : Fin 2048) : ℝ := ∑ d : Fin 128, code (K n) k d * code (X (hi s)) (lo s) d

/-- The factor of the products of a block and a query. -/
def C (n : Fin 16) (s : Fin 2048) : ℝ := scal (K n) * scal (X (hi s)) * kap

theorem C_pos (n : Fin 16) (s : Fin 2048) : 0 < C X K n s := mul_pos (mul_pos (scal_pos _) (scal_pos _)) kap_pos

/-- The base-2 exponents. -/
def T (n : Fin 16) (k : Fin 128) (s : Fin 2048) : ℝ := S X K n k s * C X K n s

/-- The keys a query sees. -/
def seen (s : Fin 2048) : Finset (Fin 16 × Fin 128) := Finset.univ.filter fun p => ok p.1 p.2 s

theorem mem_seen {s : Fin 2048} {p : Fin 16 × Fin 128} : p ∈ seen s ↔ ok p.1 p.2 s := by simp [seen]

theorem seen_nonempty (s : Fin 2048) : (seen s).Nonempty := ⟨(0, 0), mem_seen.mpr (by simp [ok])⟩

/-- The largest base-2 exponent of a query. -/
def mx (s : Fin 2048) : ℝ := (seen s).sup' (seen_nonempty s) fun p => T X K p.1 p.2 s

theorem le_mx {n : Fin 16} {k : Fin 128} {s : Fin 2048} (h : ok n k s) : T X K n k s ≤ mx X K s :=
  Finset.le_sup' (fun p : Fin 16 × Fin 128 => T X K p.1 p.2 s) (mem_seen (p := (n, k)).mpr h)

theorem exists_mx (s : Fin 2048) : ∃ n k, ok n k s ∧ T X K n k s = mx X K s := by
  obtain ⟨p, hp, he⟩ := Finset.exists_mem_eq_sup' (seen_nonempty s) fun p : Fin 16 × Fin 128 => T X K p.1 p.2 s
  exact ⟨p.1, p.2, mem_seen.mp hp, he.symm⟩

/-- The weights. -/
def P (n : Fin 16) (k : Fin 128) (s : Fin 2048) : ℝ := if ok n k s then Real.rpow 2 (T X K n k s - mx X K s) else 0

theorem P_nonneg (n : Fin 16) (k : Fin 128) (s : Fin 2048) : 0 ≤ P X K n k s := by
  unfold P
  split
  · exact (Real.rpow_pos_of_pos (by norm_num) _).le
  · exact le_rfl

theorem P_le (n : Fin 16) (k : Fin 128) (s : Fin 2048) : P X K n k s ≤ 1 := by
  unfold P
  split
  · next h => exact Real.rpow_le_one_of_one_le_of_nonpos (by norm_num) (sub_nonpos.mpr (le_mx X K h))
  · norm_num

/-- The largest weight of a block of keys. -/
def A (n : Fin 16) (s : Fin 2048) : ℝ := top fun k => P X K n k s

theorem A_nonneg (n : Fin 16) (s : Fin 2048) : 0 ≤ A X K n s := (P_nonneg X K n 0 s).trans (le_top (fun k => P X K n k s) 0)

theorem A_mul_lt (n : Fin 16) (s : Fin 2048) : A X K n s * c448 < 2 ^ (0 : ℤ) := by
  obtain ⟨k, hk⟩ := exists_top fun k => P X K n k s
  have h1 : A X K n s ≤ 1 := by rw [A, ← hk]; exact P_le X K n k s
  have h2 := c448_lt
  have h3 := c448_pos
  have h4 : (2 : ℝ) ^ (-8 : ℤ) < 1 := by norm_num
  norm_num
  nlinarith

/-- The exponent of the scale of a query's weights on a block. -/
def eP (n : Fin 16) (s : Fin 2048) : ℤ := expInt (A X K n s * c448)

theorem eP_le (n : Fin 16) (s : Fin 2048) : eP X K n s ≤ 0 := expInt_le _ _ le_rfl (A_mul_lt X K n s)

theorem le_eP (n : Fin 16) (s : Fin 2048) : -125 ≤ eP X K n s := le_expInt _

/-- The sum of a query's weights. -/
def L (s : Fin 2048) : ℝ := ∑ n, ∑ k, P X K n k s

/-- A block's part of the output. -/
def part (n : Fin 16) (s : Fin 2048) (d : Fin 128) : ℝ :=
  (∑ k, code (V n) k d * clip (P X K n k s * 2 ^ (-eP X K n s))) * (2 ^ eP X K n s * scal (V n))

/-- The attention of a head: query `s`, coordinate `d`. -/
def Y (s : Fin 2048) (d : Fin 128) : EReal := Ideal.div ((∑ n, part X K V n s d : ℝ) : EReal) ((L X K s : ℝ) : EReal)

theorem P_after {n : Fin 16} {s : Fin 2048} (h : s.val < 128 * n.val) (k : Fin 128) : P X K n k s = 0 :=
  if_neg (by unfold ok; omega)

theorem part_after {n : Fin 16} {s : Fin 2048} (h : s.val < 128 * n.val) (d : Fin 128) : part X K V n s d = 0 := by
  simp [part, P_after X K h, clip_zero]

/-! ## The same with `−∞` for the keys a query does not see -/

/-- The masked products. -/
def sE (n : Fin 16) (k : Fin 128) (s : Fin 2048) : EReal := if ok n k s then ((S X K n k s : ℝ) : EReal) else ⊥

/-- The masked base-2 exponents. -/
def tE (n : Fin 16) (k : Fin 128) (s : Fin 2048) : EReal := if ok n k s then ((T X K n k s : ℝ) : EReal) else ⊥

theorem sE_mul (n : Fin 16) (k : Fin 128) (s : Fin 2048) : sE X K n k s * ((C X K n s : ℝ) : EReal) = tE X K n k s := by
  unfold sE tE
  split
  · rw [← EReal.coe_mul, T]
  · exact EReal.bot_mul_coe_of_pos (C_pos X K n s)

theorem mul_mono {c : ℝ} (hc : 0 < c) : Monotone fun x : EReal => x * (c : EReal) := fun _ _ h =>
  mul_le_mul_of_nonneg_right h (EReal.coe_nonneg.mpr hc.le)

theorem fold_mul {c : ℝ} (hc : 0 < c) {ι : Type*} [Fintype ι] (f : ι → EReal) :
    Finset.univ.fold max ⊥ f * (c : EReal) = Finset.univ.fold max ⊥ fun i => f i * (c : EReal) := by
  have h := Finset.fold_hom (s := Finset.univ) (b := (⊥ : EReal)) (f := f) (op := max) (op' := max) (m := fun x : EReal => x * (c : EReal))
    fun x y => (mul_mono hc).map_max
  rw [← h, EReal.bot_mul_coe_of_pos hc]

theorem bm_mul (n : Fin 16) (s : Fin 2048) :
    (Finset.univ.fold max ⊥ fun k => sE X K n k s) * ((C X K n s : ℝ) : EReal) = Finset.univ.fold max ⊥ fun k => tE X K n k s := by
  rw [fold_mul (C_pos X K n s)]
  simp only [sE_mul]

theorem tE_le (n : Fin 16) (k : Fin 128) (s : Fin 2048) : tE X K n k s ≤ ((mx X K s : ℝ) : EReal) := by
  unfold tE
  split
  · next h => exact EReal.coe_le_coe_iff.mpr (le_mx X K h)
  · exact bot_le

theorem fold_tE_le (n : Fin 16) (s : Fin 2048) : (Finset.univ.fold max ⊥ fun k => tE X K n k s) ≤ ((mx X K s : ℝ) : EReal) := by
  rw [Finset.fold_max_le]
  exact ⟨bot_le, fun k _ => tE_le X K n k s⟩

theorem mx_eq {N : ℕ} (hN : N ≤ 16) {s : Fin 2048} (hs : s.val < 128 * N) :
    (Finset.univ.fold max ⊥ fun n : Fin N => Finset.univ.fold max ⊥ fun k => tE X K ⟨n.val, by omega⟩ k s) = ((mx X K s : ℝ) : EReal) := by
  refine fold_max_eq bot_le (fun n => fold_tE_le X K _ s) ?_
  obtain ⟨n, k, hk, he⟩ := exists_mx X K s
  have hn : n.val < N := by unfold ok at hk; omega
  refine ⟨⟨n.val, hn⟩, fold_max_eq bot_le (fun k => tE_le X K _ k s) ⟨k, ?_⟩⟩
  rw [tE, if_pos hk, he]

theorem exp2_mono : Monotone Ideal.exp2 := by
  intro x y h
  induction x with
  | bot => rw [Ideal.exp2_bot]; induction y with
    | bot => simp
    | coe y => rw [Ideal.exp2_coe]; exact EReal.coe_nonneg.mpr (Real.rpow_pos_of_pos (by norm_num) _).le
    | top => show _ ≤ (⊤ : EReal); exact _root_.le_top
  | coe x => induction y with
    | bot => simp at h
    | coe y =>
      rw [Ideal.exp2_coe, Ideal.exp2_coe, EReal.coe_le_coe_iff]
      exact Real.rpow_le_rpow_of_exponent_le (by norm_num) (EReal.coe_le_coe_iff.mp h)
    | top => show _ ≤ (⊤ : EReal); exact _root_.le_top
  | top => rw [top_le_iff] at h; rw [h]

theorem exp2_tE (n : Fin 16) (k : Fin 128) (s : Fin 2048) :
    Ideal.exp2 (tE X K n k s - ((mx X K s : ℝ) : EReal)) = ((P X K n k s : ℝ) : EReal) := by
  unfold tE P
  split
  · rw [← EReal.coe_sub, Ideal.exp2_coe]
  · rw [EReal.bot_sub, Ideal.exp2_bot]; rfl

theorem exp2_fold (n : Fin 16) (s : Fin 2048) :
    Ideal.exp2 ((Finset.univ.fold max ⊥ fun k => tE X K n k s) - ((mx X K s : ℝ) : EReal)) = ((A X K n s : ℝ) : EReal) := by
  have hm : Monotone fun x : EReal => Ideal.exp2 (x - ((mx X K s : ℝ) : EReal)) := fun x y h => exp2_mono (EReal.sub_le_sub h le_rfl)
  have h := Finset.fold_hom (s := Finset.univ) (b := (⊥ : EReal)) (f := fun k => tE X K n k s) (op := max) (op' := max)
    (m := fun x : EReal => Ideal.exp2 (x - ((mx X K s : ℝ) : EReal))) fun x y => hm.map_max
  rw [← h]
  refine fold_max_coe (fun k => exp2_tE X K n k s) ?_
  rw [EReal.bot_sub, Ideal.exp2_bot]
  exact EReal.coe_nonneg.mpr (A_nonneg X K n s)

theorem exp2_p (n : Fin 16) (k : Fin 128) (s : Fin 2048) (e : ℤ) :
    Ideal.exp2 (tE X K n k s - (((mx X K s : ℝ) : EReal) + ((e : ℝ) : EReal))) = ((P X K n k s * 2 ^ (-e) : ℝ) : EReal) := by
  unfold tE P
  rw [← EReal.coe_add]
  split
  · rw [← EReal.coe_sub, Ideal.exp2_coe, EReal.coe_eq_coe_iff]
    show (2 : ℝ) ^ (_ : ℝ) = (2 : ℝ) ^ (_ : ℝ) * _
    rw [← sub_sub, Real.rpow_sub (by norm_num) _ (e : ℝ), Real.rpow_intCast, zpow_neg, div_eq_mul_inv]
  · rw [EReal.bot_sub, Ideal.exp2_bot, zero_mul]; rfl

/-! ## The scales of a head -/

/-- The scales of three arguments, one after the other. -/
def scales (X K W : Fin 16 → Blk) (i : Fin 48) : ℝ :=
  if i.val < 16 then scal (X ⟨i.val % 16, by omega⟩) else if i.val < 32 then scal (K ⟨i.val % 16, by omega⟩) else scal (W ⟨i.val % 16, by omega⟩)

end Attn
-- ==== Proof.Read.lean ====
/-
  What the vector computations of Vocab.lean and the lists of Pieces.lean hold, element by element.
-/
module

public import proofs.«01_k».proof.Proof.Pieces
public import proofs.«01_k».proof.Proof.Sem

@[expose] public section

noncomputable section

namespace Cert.KernelIdeal.Attn

open Idealize.ShloMosaic Cert.KernelIdeal Cert.KernelIdeal.Gen
open _root_.Attn (Blk amax qexp scal clip code c448)

/-! ## Vector computations -/

theorem bcast3 {A B : ℕ} (E : Ev A B) (hA : A ≠ 1) (hB : B ≠ 1) (z : FVec Ideal ⟨3, ![1, A, B]⟩ .f32) (x : Fin 255) (a : Fin A) (b : Fin B) :
    broadcastTo ⟨3, ![255, A, B]⟩ z E.bcast (ix3 x a b) = z (ix3 0 a b) := by
  show z _ = z _
  congr 1
  funext i
  match i with
  | 0 => rfl
  | 1 => exact Fin.ext (by simp [Shape.Idx.norm, hA])
  | 2 => exact Fin.ext (by simp [Shape.Idx.norm, hB])

theorem cast3 {A B : ℕ} (E : Ev A B) (y : FVec Ideal ⟨2, ![A, B]⟩ .f32) (a : Fin A) (b : Fin B) :
    shapeCast ⟨3, ![1, A, B]⟩ y E.cast (ix3 0 a b) = y (ix2 a b) := by
  pointwise
  exact congrArg y (Shape.reshapeEquiv_eq_of_rowMajor _ (by
    rw [Shape.rowMajor_val_three, Shape.rowMajor_val_two]
    show a.val * B + b.val = (0 * A + a.val) * B + b.val
    simp only [Nat.zero_mul, Nat.zero_add]))

theorem countWord_eq_if (y : EReal) : _root_.Attn.countWord y = Ideal.fptosi 32 (∑ x : Fin 255,
    if Ideal.ofBits FTy.f32 (IntOp.shli ArithUnit.vector (IntOp.addi (BitVec.ofNat 32 x.val) 1#32) 23#32) ≤ y then (1 : EReal) else 0) := by
  unfold _root_.Attn.countWord
  congr 1
  refine Finset.sum_congr rfl fun x _ => ?_
  unfold _root_.Attn.powerAt Ideal.cmp
  by_cases h : Ideal.ofBits FTy.f32 (IntOp.shli ArithUnit.vector (IntOp.addi (BitVec.ofNat 32 x.val) 1#32) 23#32) ≤ y
  · rw [if_pos h]; simp [Scalar.select, h]
  · rw [if_neg h]; simp [Scalar.select, h]

/-- An exponent count, element by element. -/
theorem expV_apply {A B : ℕ} (E : Ev A B) (hA : A ≠ 1) (hB : B ≠ 1) (y : FVec Ideal ⟨2, ![A, B]⟩ .f32) (a : Fin A) (b : Fin B) :
    expV A B E y (ix2 a b) = _root_.Attn.expWord (y (ix2 a b)) := by
  have h : broadcastTo ⟨3, ![255, A, B]⟩ (shapeCast ⟨3, ![1, A, B]⟩ y E.cast) E.bcast = fun i => y (ix2 (i 1) (i 2)) := by
    funext i
    have hi : i = ix3 (i 0) (i 1) (i 2) := by
      funext j
      match j with
      | 0 => rfl
      | 1 => rfl
      | 2 => rfl
    rw [hi]
    exact (bcast3 E hA hB _ _ _ _).trans (cast3 E y _ _)
  unfold expV
  rw [h]
  pointwise
  unfold _root_.Attn.expWord
  rw [countWord_eq_if]
  rfl

/-- The same of a single number. -/
theorem expV11_apply (y : FVec Ideal S1x1 .f32) : expV 1 1 ev11 y (ix2 0 0) = _root_.Attn.expWord (y (ix2 0 0)) := by
  pointwise [expV]
  unfold _root_.Attn.expWord
  rw [countWord_eq_if]
  rfl

theorem powV_apply (s : Shape) (e : IVec s 32) (i : s.Idx) : powV s e i = _root_.Attn.powWord (e i) := rfl

/-! ## The quantiser of a block -/

/-- `b` holds the real numbers `f`, none of which exceeds the floats' range. -/
def Holds (b : FVec Ideal S128x128 .bf16) (f : Blk) : Prop := (∀ k d, b (ix2 k d) = ((f k d : ℝ) : EReal)) ∧ ∀ k d, |f k d| < 2 ^ (128 : ℤ)

variable {b : FVec Ideal S128x128 .bf16} {f : Blk} (hb : Holds b f)

include hb

theorem amaxV_apply : amaxV b (ix2 0 0) = ((amax f : ℝ) : EReal) := by
  pointwise [amaxV]
  rw [_root_.Attn.ofBits_bot, _root_.Attn.ofBits_bot16]
  have habs : ∀ k d, FloatOps.absf (b (ix2 k d)) = ((|f k d| : ℝ) : EReal) := fun k d => by
    rw [hb.1]
    show max ((f k d : ℝ) : EReal) (-((f k d : ℝ) : EReal)) = _
    rw [abs_eq_max_neg, EReal.coe_strictMono.monotone.map_max, EReal.coe_neg]
  simp only [habs]
  refine _root_.Attn.fold_max_eq bot_le (fun d => ?_) ?_
  · rw [Finset.fold_max_le]
    exact ⟨bot_le, fun k _ => EReal.coe_le_coe_iff.mpr (_root_.Attn.le_top (fun p : Fin 128 × Fin 128 => |f p.1 p.2|) (k, d))⟩
  · obtain ⟨p, hp⟩ := _root_.Attn.exists_top fun p : Fin 128 × Fin 128 => |f p.1 p.2|
    refine ⟨p.2, _root_.Attn.fold_max_eq bot_le (fun k => ?_) ⟨p.1, by rw [amax, ← hp]⟩⟩
    exact EReal.coe_le_coe_iff.mpr (_root_.Attn.le_top (fun p : Fin 128 × Fin 128 => |f p.1 p.2|) (k, p.2))

theorem expB_apply : expB b (ix2 0 0) = BitVec.ofInt 32 (qexp f) := by
  unfold expB
  rw [expV11_apply]
  pointwise
  rw [amaxV_apply hb, _root_.Attn.ofBits_c448, ← EReal.coe_mul, _root_.Attn.expWord_eq]
  · rfl
  · exact (_root_.Attn.amax_mul_lt hb.2).trans (by norm_num)

theorem scale256_apply (l : Fin 256) : scaleB S1x256 broadcasts_S1x1_S1x256 b (ix2 0 l) = ((scal f : ℝ) : EReal) := by
  have h1 := _root_.Attn.le_qexp f
  have h2 := _root_.Attn.qexp_le hb.2
  pointwise [scaleB]
  rw [powV_apply, expB_apply hb, _root_.Attn.powWord_ofInt _ (by omega) (by omega)]
  rfl

theorem scale128_apply (l : Fin 128) : scaleB S1x128 broadcasts_S1x1_S1x128 b (ix2 0 l) = ((scal f : ℝ) : EReal) := by
  have h1 := _root_.Attn.le_qexp f
  have h2 := _root_.Attn.qexp_le hb.2
  pointwise [scaleB]
  rw [powV_apply, expB_apply hb, _root_.Attn.powWord_ofInt _ (by omega) (by omega)]
  rfl

theorem clipB_apply (k d : Fin 128) : clipB b (ix2 k d) = ((code f k d : ℝ) : EReal) := by
  have h1 := _root_.Attn.le_qexp f
  have h2 := _root_.Attn.qexp_le hb.2
  pointwise [clipB]
  rw [powV_apply]
  show min _ (max _ (_ * _root_.Attn.powWord (IntOp.subi 0#32 (expB b (ix2 0 0))))) = _
  rw [expB_apply hb, _root_.Attn.neg_ofInt, _root_.Attn.powWord_ofInt _ (by omega) (by omega), hb.1, _root_.Attn.ofBits_448,
    _root_.Attn.ofBits_m448, ← EReal.coe_mul, _root_.Attn.clip_coe]
  rfl

theorem codesB_apply (k d : Fin 128) : codesB b (ix2 k d) = ((code f k d : ℝ) : EReal) := clipB_apply hb k d

theorem codesTB_apply (d k : Fin 128) : codesTB b (ix2 d k) = ((code f k d : ℝ) : EReal) := by
  rw [← clipB_apply hb]
  pointwise [codesTB]

end Cert.KernelIdeal.Attn
-- ==== Proof.Stack.lean ====
/-
  Reading the lists of writes: a stack's element, the windows' blocks, and what the quantisers leave.
-/
module

public import proofs.«01_k».proof.Proof.Read

@[expose] public section

noncomputable section

namespace Cert.KernelIdeal.Attn

open Idealize.ShloMosaic Cert.KernelIdeal Cert.KernelIdeal.Gen
open _root_.Attn (Blk amax qexp scal clip code c448 hi lo)

/-- What a list of writes leaves at a place. -/
def rd {s : Shape} {e : EltTy} (v : View sig .tc .vmem s e) (L : List (View.Piece (Elt Ideal) s e)) (y : s.Idx) : Elt Ideal e :=
  v.read (Elt Ideal) (v.writes (Elt Ideal) v.junk L) y

variable {s : Shape} {e : EltTy} (v : View sig .tc .vmem s e)

/-- A load reads what the writes left at its places. -/
theorem readCov_apply (L : List (View.Piece (Elt Ideal) s e)) (r : Rect s) (x : r.shape.Idx) :
    v.readCov L r.toLoadRect x = rd v L (r.emb x) := rfl

theorem rd_hit (p : View.Piece (Elt Ideal) s e) (L : List (View.Piece (Elt Ideal) s e)) (y : s.Idx) (x : p.1.shape.Idx)
    (hx : ∀ a, (y a).val = p.1.off a + p.1.stride a * (x a).val) : rd v (p :: L) y = p.2 x :=
  View.read_writes_cons_hit_of_coords v _ p.1 p.2 L x y hx

theorem rd_miss (p : View.Piece (Elt Ideal) s e) (L : List (View.Piece (Elt Ideal) s e)) (y : s.Idx) (hy : y ∉ p.1.set) :
    rd v (p :: L) y = rd v L y :=
  View.read_writes_cons_miss v _ p L y hy

variable (base : List (View.Piece (Elt Ideal) s e)) {M : ℕ} (p : (n : ℕ) → n < M → View.Piece (Elt Ideal) s e)

/-- Of a stack, the piece that holds the place is read. -/
theorem rd_stack (n : ℕ) (hn : n < M) (y : s.Idx) (x : (p n hn).1.shape.Idx)
    (hx : ∀ a, (y a).val = (p n hn).1.off a + (p n hn).1.stride a * (x a).val)
    (hm : ∀ n' (h' : n' < M), n' ≠ n → y ∉ (p n' h').1.set) :
    ∀ (m : ℕ) (h : m ≤ M), n < m → rd v (stackOn base M p m h) y = (p n hn).2 x
  | 0, _, h0 => absurd h0 (Nat.not_lt_zero n)
  | m + 1, h, h0 => by
    unfold stackOn
    by_cases hmn : m = n
    · subst hmn
      exact rd_hit v _ _ y x hx
    · rw [rd_miss v _ _ y (hm m h hmn)]
      exact rd_stack n hn y x hx hm m _ (by omega)

/-- Where no piece of a stack holds the place, the older writes are read. -/
theorem rd_stack_miss (y : s.Idx) (hm : ∀ n' (h' : n' < M), y ∉ (p n' h').1.set) :
    ∀ (m : ℕ) (h : m ≤ M), rd v (stackOn base M p m h) y = rd v base y
  | 0, _ => rfl
  | m + 1, h => by
    unfold stackOn
    rw [rd_miss v _ _ y (hm m h)]
    exact rd_stack_miss y hm m _

/-- Two stacks of equal pieces are equal. -/
theorem stackOn_congr {α : Type} (base : List α) (M : ℕ) (p q : (n : ℕ) → n < M → α) :
    ∀ (m : ℕ) (h : m ≤ M), (∀ n (hn : n < m), p n (by omega) = q n (by omega)) → stackOn base M p m h = stackOn base M q m h
  | 0, _, _ => rfl
  | m + 1, h, hpq => by
    unfold stackOn
    rw [hpq m (Nat.lt_succ_self m), stackOn_congr base M p q m _ fun n hn => hpq n (by omega)]

/-! ## The windows' blocks -/

/-- A window holds the real numbers `f`, block by block. -/
def Win (x : Vec Ideal S1x2048x128 .bf16) (f : Fin 16 → Blk) : Prop :=
  (∀ (s : Fin 2048) (d : Fin 128), x (ix3 0 s d) = ((f (hi s) (lo s) d : ℝ) : EReal)) ∧ ∀ n k d, |f n k d| < 2 ^ (128 : ℤ)

theorem hi_eq {s : Fin 2048} {n : Fin 16} {k : Fin 128} (h : s.val = 128 * n.val + k.val) : hi s = n :=
  Fin.ext (by show s.val / 128 = n.val; omega)

theorem lo_eq {s : Fin 2048} {n : Fin 16} {k : Fin 128} (h : s.val = 128 * n.val + k.val) : lo s = k :=
  Fin.ext (by show s.val % 128 = k.val; omega)

variable {a : Memref sig .tc .vmem S1x2048x128 .bf16} {ha : a.IsWhole} {x : Vec Ideal S1x2048x128 .bf16} {f : Fin 16 → Blk}

theorem cast_blk {e : EltTy} (z : S1x128x128.Idx → Elt Ideal e) (k d : Fin 128) :
    shapeCast S128x128 z shapeCasts_S1x128x128_S128x128 (ix2 k d) = z (ix3 0 k d) := by
  pointwise

theorem blkV_holds (hx : Win x f) (n : ℕ) (h : n < 16) : Holds (blkV a ha x n h) (f ⟨n, h⟩) := by
  refine ⟨fun k d => ?_, hx.2 _⟩
  have h1 : blkV a ha x n h (ix2 k d) = x (ix3 0 ⟨128 * n + k.val, by omega⟩ d) := by
    have h0 : View.readAt (Elt Ideal) a.view (Rect.unit (s := S1x2048x128) ![0, 128 * n, 0] S1x128x128.size (inbRows h)).toLoadRect
        (ha.unread x) = View.ld x (Rect.unit (s := S1x2048x128) ![0, 128 * n, 0] S1x128x128.size (inbRows h)) := by
      rw [View.readAt_eq_ld, Memref.IsWhole.read_unread]
    unfold blkV
    rw [h0]
    refine (cast_blk _ k d).trans ?_
    show x _ = x _
    congr 1
    funext i
    match i with
    | 0 => exact Fin.ext (show 0 + 1 * 0 = 0 from rfl)
    | 1 => exact Fin.ext (show 128 * n + 1 * k.val = 128 * n + k.val by omega)
    | 2 => exact Fin.ext (show 0 + 1 * d.val = d.val by omega)
  rw [h1, hx.1, hi_eq (n := ⟨n, h⟩) (k := k) rfl, lo_eq (n := ⟨n, h⟩) (k := k) rfl]

theorem ne_block {n n' k : ℕ} (hk : k < 128) (h : n' ≠ n) : 128 * n + k < 128 * n' ∨ 128 * n' + 128 ≤ 128 * n + k := by omega

/-- The codes that a quantiser leaves. -/
theorem rd_codesL (v : View sig .tc .vmem S1x2048x128 .fp8e4m3) (hx : Win x f) (y : S1x2048x128.Idx) (s : Fin 2048) (d : Fin 128)
    (h1 : (y 1).val = s.val) (h2 : (y 2).val = d.val) : rd v (codesL a ha x) y = ((code (f (hi s)) (lo s) d : ℝ) : EReal) := by
  have hs : s.val = 128 * (hi s).val + (lo s).val := by show s.val = 128 * (s.val / 128) + s.val % 128; omega
  have h0 : (y 0).val < 1 := (y 0).isLt
  unfold codesL
  rw [rd_stack v _ _ (hi s).val (hi s).isLt y (ix3 (0 : Fin 1) (lo s) d) ?_ ?_ 16 le_rfl (hi s).isLt]
  · dsimp only
    pointwise
    exact codesB_apply (blkV_holds hx _ _) _ _
  · intro i
    match i with
    | 0 => show (y 0).val = 0 + 1 * 0; omega
    | 1 => show (y 1).val = 128 * (hi s).val + 1 * (lo s).val; omega
    | 2 => show (y 2).val = 0 + 1 * d.val; omega
  · intro n' h' hne
    exact Rect.not_mem_set_of_axis _ y 1 (128 * n') 128 rfl rfl rfl (by rw [h1, hs]; exact ne_block (lo s).isLt hne)

/-- The transposed codes. -/
theorem rd_codesTL (v : View sig .tc .vmem S128x2048 .fp8e4m3) (hx : Win x f) (y : S128x2048.Idx) (s : Fin 2048) (d : Fin 128)
    (h1 : (y 1).val = s.val) (h2 : (y 0).val = d.val) : rd v (codesTL a ha x) y = ((code (f (hi s)) (lo s) d : ℝ) : EReal) := by
  have hs : s.val = 128 * (hi s).val + (lo s).val := by show s.val = 128 * (s.val / 128) + s.val % 128; omega
  unfold codesTL
  rw [rd_stack v _ _ (hi s).val (hi s).isLt y (ix2 d (lo s)) ?_ ?_ 16 le_rfl (hi s).isLt]
  · exact codesTB_apply (blkV_holds hx _ _) _ _
  · intro i
    match i with
    | 0 => show (y 0).val = 0 + 1 * d.val; omega
    | 1 => show (y 1).val = 128 * (hi s).val + 1 * (lo s).val; omega
  · intro n' h' hne
    exact Rect.not_mem_set_of_axis _ y 1 (128 * n') 128 rfl rfl rfl (by rw [h1, hs]; exact ne_block (lo s).isLt hne)

/-- The queries' scales along the lanes. -/
theorem rd_lanesL (v : View sig .tc .vmem S1x2048 .f32) (hx : Win x f) (y : S1x2048.Idx) (s : Fin 2048) (h1 : (y 1).val = s.val) :
    rd v (lanesL a ha x) y = ((scal (f (hi s)) : ℝ) : EReal) := by
  have hs : s.val = 128 * (hi s).val + (lo s).val := by show s.val = 128 * (s.val / 128) + s.val % 128; omega
  have h0 : (y 0).val < 1 := (y 0).isLt
  unfold lanesL
  rw [rd_stack v _ _ (hi s).val (hi s).isLt y (ix2 (0 : Fin 1) (lo s)) ?_ ?_ 16 le_rfl (hi s).isLt]
  · dsimp only
    pointwise
    exact scale128_apply (blkV_holds hx _ _) _
  · intro i
    match i with
    | 0 => show (y 0).val = 0 + 1 * 0; omega
    | 1 => show (y 1).val = 128 * (hi s).val + 1 * (lo s).val; omega
  · intro n' h' hne
    exact Rect.not_mem_set_of_axis _ y 1 (128 * n') 128 rfl rfl rfl (by rw [h1, hs]; exact ne_block (lo s).isLt hne)

/-- The scales of an argument's blocks, a row each. -/
theorem rd_rowsL (v : View sig .tc .vmem S16x256 .f32) (hx : Win x f) (y : S16x256.Idx) (n : Fin 16) (h1 : (y 0).val = n.val) :
    rd v (rowsL a ha x) y = ((scal (f n) : ℝ) : EReal) := by
  unfold rowsL
  rw [rd_stack v _ _ n.val n.isLt y (ix2 (0 : Fin 1) (y 1)) ?_ ?_ 16 le_rfl n.isLt]
  · dsimp only
    pointwise
    exact scale256_apply (blkV_holds hx _ _) _
  · intro i
    match i with
    | 0 => show (y 0).val = n.val + 1 * 0; omega
    | 1 => show (y 1).val = 0 + 1 * (y 1).val; omega
  · intro n' h' hne
    exact Rect.not_mem_set_of_axis _ y 0 n' 1 rfl rfl rfl (by omega)

/-- The scales as results. -/
theorem rd_scalesL (v : View sig .tc .vmem S1x48x128 .f32) (base : List (View.Piece (Elt Ideal) S1x48x128 .f32)) (o : ℕ) (ho : o ≤ 32)
    (hx : Win x f) (y : S1x48x128.Idx) (n : Fin 16) (h1 : (y 1).val = o + n.val) :
    rd v (scalesL base o ho a ha x) y = ((scal (f n) : ℝ) : EReal) := by
  have h0 : (y 0).val < 1 := (y 0).isLt
  unfold scalesL
  rw [rd_stack v _ _ n.val n.isLt y (ix3 (0 : Fin 1) (0 : Fin 1) (y 2)) ?_ ?_ 16 le_rfl n.isLt]
  · dsimp only
    pointwise
    exact scale128_apply (blkV_holds hx _ _) _
  · intro i
    match i with
    | 0 => show (y 0).val = 0 + 1 * 0; omega
    | 1 => show (y 1).val = o + n.val + 1 * 0; omega
    | 2 => show (y 2).val = 0 + 1 * (y 2).val; omega
  · intro n' h' hne
    exact Rect.not_mem_set_of_axis _ y 1 (o + n') 1 rfl rfl rfl (by omega)

theorem rd_scalesL_miss (v : View sig .tc .vmem S1x48x128 .f32) (base : List (View.Piece (Elt Ideal) S1x48x128 .f32)) (o : ℕ) (ho : o ≤ 32)
    (y : S1x48x128.Idx) (h1 : (y 1).val < o) : rd v (scalesL base o ho a ha x) y = rd v base y := by
  unfold scalesL
  refine rd_stack_miss v _ _ y (fun n' h' => ?_) 16 le_rfl
  exact Rect.not_mem_set_of_axis _ y 1 (o + n') 1 rfl rfl rfl (by omega)

end Cert.KernelIdeal.Attn
-- ==== Proof.Tile.lean ====
/-
  One tile of 256 queries: from the codes and scales to the attention of those queries.
-/
module

public import proofs.«01_k».proof.Proof.Stack

@[expose] public section

noncomputable section

namespace Cert.KernelIdeal.Attn

open Idealize.ShloMosaic Cert.KernelIdeal Cert.KernelIdeal.Gen
open _root_.Attn (Blk amax qexp scal clip code c448 hi lo)

/-- What the tiles read: the codes and the scales of `X`, `K` and `W`. -/
structure Env.Holds (V : Env) (X K W : Fin 16 → Blk) : Prop where
  q : ∀ (y : S1x2048x128.Idx) (s : Fin 2048) (d : Fin 128), (y 1).val = s.val → (y 2).val = d.val →
    rd V.a6.view V.qL y = ((code (X (hi s)) (lo s) d : ℝ) : EReal)
  k : ∀ (y : S1x2048x128.Idx) (s : Fin 2048) (d : Fin 128), (y 1).val = s.val → (y 2).val = d.val →
    rd V.a7.view V.kL y = ((code (K (hi s)) (lo s) d : ℝ) : EReal)
  v : ∀ (y : S128x2048.Idx) (s : Fin 2048) (d : Fin 128), (y 1).val = s.val → (y 0).val = d.val →
    rd V.a10.view V.vL y = ((code (W (hi s)) (lo s) d : ℝ) : EReal)
  ks : ∀ (y : S16x256.Idx) (n : Fin 16), (y 0).val = n.val → rd V.a11.view V.ksL y = ((scal (K n) : ℝ) : EReal)
  vs : ∀ (y : S16x256.Idx) (n : Fin 16), (y 0).val = n.val → rd V.a12.view V.vsL y = ((scal (W n) : ℝ) : EReal)
  qs : ∀ (y : S1x2048.Idx) (s : Fin 2048), (y 1).val = s.val → rd V.a13.view V.qsL y = ((scal (X (hi s)) : ℝ) : EReal)

/-- The position of a tile's query. -/
def pos (j : ℕ) (hj : j < 8) (r : Fin 256) : Fin 2048 := ⟨256 * j + r.val, by omega⟩

/-- The position of a key. -/
def key (n : ℕ) (h : n < 16) (k : Fin 128) : Fin 2048 := ⟨128 * n + k.val, by omega⟩

theorem hi_key (n : ℕ) (h : n < 16) (k : Fin 128) : hi (key n h k) = ⟨n, h⟩ := hi_eq (n := ⟨n, h⟩) (k := k) rfl

theorem lo_key (n : ℕ) (h : n < 16) (k : Fin 128) : lo (key n h k) = k := lo_eq (n := ⟨n, h⟩) (k := k) rfl

theorem dotV_apply (k : FVec Ideal S128x128 .fp8e4m3) (q : FVec Ideal S256x128 .fp8e4m3) (i : Fin 128) (r : Fin 256) :
    dotV k q (ix2 i r) = ∑ d : Fin 128, (k (ix2 i d) * q (ix2 r d) : EReal) := by
  pointwise [dotV]

theorem cast_tile (z : S1x256x128.Idx → Elt Ideal .fp8e4m3) (r : Fin 256) (d : Fin 128) :
    shapeCast S256x128 z shapeCasts_S1x256x128_S256x128 (ix2 r d) = z (ix3 0 r d) := by
  pointwise

theorem maskV_apply (a b : BitVec 32) (s : FVec Ideal S128x256 .f32) (i : Fin 128) (r : Fin 256) : maskV a b s (ix2 i r) =
    Scalar.select (IntOp.cmpi .sle (IntOp.addi (BitVec.ofNat 32 i.val) a) (IntOp.addi (BitVec.ofNat 32 r.val) b)) (s (ix2 i r)) (⊥ : EReal) := by
  rw [← _root_.Attn.ofBits_bot]
  pointwise [maskV]

theorem sle_words {a b : ℕ} (ha : a < 2 ^ 31) (hb : b < 2 ^ 31) :
    IntOp.cmpi .sle (BitVec.ofNat 32 a) (BitVec.ofNat 32 b) = BitVec.ofBool (decide (a ≤ b)) := by
  have h : ∀ c, c < 2 ^ 31 → (BitVec.ofNat 32 c).toInt = c := fun c hc => by
    have hn : (BitVec.ofNat 32 c).toNat = c := by rw [BitVec.toNat_ofNat]; omega
    rw [BitVec.toInt_eq_toNat_of_lt (by rw [hn]; omega), hn]
  show BitVec.ofBool ((BitVec.ofNat 32 a).sle (BitVec.ofNat 32 b)) = _
  rw [BitVec.sle_eq_decide, h a ha, h b hb]
  congr 1
  simp

/-- A block's products, masked if it is on the diagonal. -/
def blockV (V : Env) (j : ℕ) (hj : j < 8) (n : ℕ) (h : n < 16) : FVec Ideal S128x256 .f32 :=
  if n < 2 * j then prodV V j hj n h else diagV V j hj n h

/-- Two pieces on a stack make a taller one. -/
theorem two_on_stack {α σ : Type} (base : List α) (mk : (n : ℕ) → n < 16 → σ → α) (u w z : (n : ℕ) → n < 16 → σ) (j : ℕ) (hj : j < 8)
    (hu : ∀ n h, n < 2 * j → z n h = u n h) (hw : ∀ n h, ¬ n < 2 * j → z n h = w n h) :
    mk (2 * j + 1) (by omega) (w (2 * j + 1) (by omega)) :: mk (2 * j) (by omega) (w (2 * j) (by omega)) ::
      stackOn base 16 (fun n h => mk n h (u n h)) (2 * j) (by omega) =
    stackOn base 16 (fun n h => mk n h (z n h)) (2 * j + 2) (by omega) := by
  show _ = mk (2 * j + 1) _ (z (2 * j + 1) _) :: mk (2 * j) _ (z (2 * j) _) :: stackOn base 16 (fun n h => mk n h (z n h)) (2 * j) _
  rw [hw _ _ (by omega), hw _ _ (by omega)]
  congr 2
  exact stackOn_congr _ _ _ _ _ _ fun n hn => by rw [hu n _ hn]

theorem rd_slabs (v : View sig .tc .vmem S16x128x256 .f32) (base : List (View.Piece (Elt Ideal) S16x128x256 .f32))
    (z : (n : ℕ) → n < 16 → FVec Ideal S128x256 .f32) (m : ℕ) (hm : m ≤ 16) (n : ℕ) (hn : n < m) (k : Fin 128) (r : Fin 256)
    (y : S16x128x256.Idx) (h0 : (y 0).val = n) (h1 : (y 1).val = k.val) (h2 : (y 2).val = r.val) :
    rd v (stackOn base 16 (fun n h => slabP n h (z n h)) m hm) y = z n (by omega) (ix2 k r) := by
  rw [rd_stack v _ _ n (by omega) y (ix3 (0 : Fin 1) k r) ?_ ?_ m hm hn]
  · unfold slabP
    dsimp only
    pointwise
  · intro i
    match i with
    | 0 => show (y 0).val = n + 1 * 0; omega
    | 1 => show (y 1).val = 0 + 1 * k.val; omega
    | 2 => show (y 2).val = 0 + 1 * r.val; omega
  · intro n' h' hne
    exact Rect.not_mem_set_of_axis _ y 0 n' 1 rfl rfl rfl (by omega)

theorem rd_rows (v : View sig .tc .vmem S16x256 .f32) (base : List (View.Piece (Elt Ideal) S16x256 .f32))
    (z : (n : ℕ) → n < 16 → FVec Ideal S1x256 .f32) (m : ℕ) (hm : m ≤ 16) (n : ℕ) (hn : n < m) (r : Fin 256)
    (y : S16x256.Idx) (h0 : (y 0).val = n) (h1 : (y 1).val = r.val) :
    rd v (stackOn base 16 (fun n h => rowP n h (z n h)) m hm) y = z n (by omega) (ix2 0 r) := by
  rw [rd_stack v _ _ n (by omega) y (ix2 (0 : Fin 1) r) ?_ ?_ m hm hn]
  · rfl
  · intro i
    match i with
    | 0 => show (y 0).val = n + 1 * 0; omega
    | 1 => show (y 1).val = 0 + 1 * r.val; omega
  · intro n' h' hne
    exact Rect.not_mem_set_of_axis _ y 0 n' 1 rfl rfl rfl (by omega)

theorem rd_front (v : View sig .tc .vmem S16x256 .f32) (base : List (View.Piece (Elt Ideal) S16x256 .f32)) {N : ℕ} (hN : N ≤ 16)
    (E : EvT N) (z : FVec Ideal ⟨2, ![N, 256]⟩ .f32) (n : Fin N) (r : Fin 256)
    (y : S16x256.Idx) (h0 : (y 0).val = n.val) (h1 : (y 1).val = r.val) : rd v (frontP hN E z :: base) y = z (ix2 n r) := by
  rw [rd_hit v _ _ y (ix2 n r)]
  · unfold frontP
    dsimp only
    exact congrFun (shapeCast_self z _) _
  · intro i
    match i with
    | 0 => show (y 0).val = 0 + 1 * n.val; omega
    | 1 => show (y 1).val = 0 + 1 * r.val; omega

theorem rd_acc (v : View sig .tc .vmem S128x256 .f32) (base : List (View.Piece (Elt Ideal) S128x256 .f32))
    (z : FVec Ideal S128x256 .f32) (y : S128x256.Idx) : rd v (accP z :: base) y = z y := by
  rw [rd_hit v _ _ y y]
  · unfold accP
    dsimp only
    rw [shapeCast_self]
  · intro i
    match i with
    | 0 => show (y 0).val = 0 + 1 * (y 0).val; omega
    | 1 => show (y 1).val = 0 + 1 * (y 1).val; omega

theorem colMax_apply (s : FVec Ideal S128x256 .f32) (r : Fin 256) : colMax s (ix2 0 r) = Finset.univ.fold max (⊥ : EReal) fun k : Fin 128 => s (ix2 k r) := by
  rw [← _root_.Attn.ofBits_bot]
  pointwise [colMax]

/-! ## A tile's vector computations -/

section

variable {N : ℕ} (E : EvT N)

theorem cV_apply (ks : FVec Ideal ⟨2, ![N, 256]⟩ .f32) (sq : FVec Ideal S1x256 .f32) (n : Fin N) (r : Fin 256) :
    cV E ks sq (ix2 n r) = (ks (ix2 n r) * sq (ix2 0 r) * ((_root_.Attn.kap : ℝ) : EReal) : EReal) := by
  have h : (Named.named κ "sm_log2e" 0x3E0293EE#32 : Ideal .f32) = ((_root_.Attn.kap : ℝ) : EReal) :=
    IdealRules.named_const.ideal_named_scalar _ _ _ _ rfl
  pointwise [cV]
  rw [h]

theorem mV_apply (t : FVec Ideal ⟨2, ![N, 256]⟩ .f32) (r : Fin 256) :
    mV E t (ix2 0 r) = Finset.univ.fold max (⊥ : EReal) fun n : Fin N => t (ix2 n r) := by
  rw [← _root_.Attn.ofBits_bot]
  pointwise [mV]

theorem eV_apply (h1 : N ≠ 1) (t : FVec Ideal ⟨2, ![N, 256]⟩ .f32) (n : Fin N) (r : Fin 256) :
    eV E t (ix2 n r) = _root_.Attn.expWord (Ideal.exp2 (t (ix2 n r) - mV E t (ix2 0 r)) * ((c448 : ℝ) : EReal)) := by
  unfold eV
  rw [expV_apply E.ev h1 (by decide), ← _root_.Attn.ofBits_c448]
  congr 1

theorem soV_apply (t : FVec Ideal ⟨2, ![N, 256]⟩ .f32) (n : Fin N) (r : Fin 256) :
    soV E t (ix2 n r) = (mV E t (ix2 0 r) + (((eV E t (ix2 n r)).toInt : ℝ) : EReal) : EReal) := by
  pointwise [soV]
  rfl

theorem pV_apply (s : FVec Ideal S1x128x256 .f32) (c so : FVec Ideal S1x256 .f32) (k : Fin 128) (r : Fin 256) :
    pV s c so (ix2 k r) = Ideal.exp2 (s (ix3 0 k r) * c (ix2 0 r) - so (ix2 0 r)) := by
  pointwise [pV]
  rfl

theorem colSum_apply (p : FVec Ideal S128x256 .f32) (r : Fin 256) : colSum p (ix2 0 r) = ∑ k : Fin 128, (p (ix2 k r) : EReal) := by
  pointwise [colSum]

theorem avV_apply (vt : FVec Ideal S128x128 .fp8e4m3) (p : FVec Ideal S128x256 .f32) (off : FVec Ideal S1x256 .f32) (d : Fin 128)
    (r : Fin 256) : avV vt p off (ix2 d r) =
      ((∑ k : Fin 128, (vt (ix2 d k) * min ((448 : ℝ) : EReal) (max ((-448 : ℝ) : EReal) (p (ix2 k r))) : EReal)) * off (ix2 0 r) : EReal) := by
  rw [← _root_.Attn.ofBits_448, ← _root_.Attn.ofBits_m448]
  pointwise [avV]

theorem yV_apply (ls pe : FVec Ideal ⟨2, ![N, 256]⟩ .f32) (acc : FVec Ideal S128x256 .f32) (r : Fin 256) (d : Fin 128) :
    yV E ls pe acc (ix3 0 r d) = Ideal.div (acc (ix2 d r)) (∑ n : Fin N, (ls (ix2 n r) * pe (ix2 n r) : EReal)) := by
  pointwise [yV]

end

/-- A sum over a front is the whole sum if the rest is zero. -/
theorem sum_front {m N : ℕ} (hN : N ≤ m) (g : Fin m → ℝ) (h : ∀ n : Fin m, N ≤ n.val → g n = 0) :
    ∑ n : Fin N, g ⟨n.val, by omega⟩ = ∑ n, g n := by
  obtain ⟨M, rfl⟩ := Nat.exists_eq_add_of_le hN
  rw [Fin.sum_univ_add, Finset.sum_eq_zero (s := Finset.univ) (f := fun i : Fin M => g (Fin.natAdd N i)) fun i _ => h _ (by simp), add_zero]
  rfl

variable {V : Env} {X K W : Fin 16 → Blk} (hV : V.Holds X K W) {j : ℕ} {hj : j < 8} {E : EvT (2 * j + 2)} {B L : Lists}

include hV in
theorem prodV_apply (n : ℕ) (h : n < 16) (k : Fin 128) (r : Fin 256) :
    prodV V j hj n h (ix2 k r) = ((_root_.Attn.S X K ⟨n, h⟩ k (pos j hj r) : ℝ) : EReal) := by
  unfold prodV
  rw [dotV_apply, _root_.Attn.S, _root_.Attn.coe_sum]
  refine Finset.sum_congr rfl fun d _ => ?_
  rw [EReal.coe_mul]
  congr 1
  · refine (cast_blk _ k d).trans ?_
    rw [readCov_apply, hV.k _ (key n h k) d, hi_key, lo_key]
    · show 128 * n + 1 * k.val = 128 * n + k.val; omega
    · show 0 + 1 * d.val = d.val; omega
  · refine (cast_tile _ r d).trans ?_
    rw [readCov_apply, hV.q _ (pos j hj r) d]
    · show 256 * j + 1 * r.val = 256 * j + r.val; omega
    · show 0 + 1 * d.val = d.val; omega

include hV in
theorem diagV_apply (n : ℕ) (h : n < 16) (k : Fin 128) (r : Fin 256) :
    diagV V j hj n h (ix2 k r) = _root_.Attn.sE X K ⟨n, h⟩ k (pos j hj r) := by
  unfold diagV
  rw [maskV_apply, prodV_apply hV]
  have ha : ∀ a b : ℕ, IntOp.addi (BitVec.ofNat 32 a) (BitVec.ofNat 32 b) = BitVec.ofNat 32 (a + b) := fun a b =>
    (BitVec.ofNat_add a b).symm
  rw [ha, ha, sle_words (by omega) (by omega)]
  unfold _root_.Attn.sE _root_.Attn.ok
  show Scalar.select (BitVec.ofBool (decide (k.val + 128 * n ≤ r.val + 256 * j))) _ _ = if 128 * n + k.val ≤ 256 * j + r.val then _ else _
  by_cases hc : 128 * n + k.val ≤ 256 * j + r.val
  · rw [if_pos hc, decide_eq_true (by omega)]; rfl
  · rw [if_neg hc, decide_eq_false (by omega)]; rfl

include hV in
theorem blockV_apply (n : ℕ) (h : n < 16) (k : Fin 128) (r : Fin 256) :
    blockV V j hj n h (ix2 k r) = _root_.Attn.sE X K ⟨n, h⟩ k (pos j hj r) := by
  unfold blockV
  split
  · next hn =>
    rw [prodV_apply hV, _root_.Attn.sE, if_pos]
    show 128 * n + k.val ≤ 256 * j + r.val
    omega
  · exact diagV_apply hV n h k r

variable (hL : IsTile V j hj E B L)

include hV hL

theorem l4_apply (n : ℕ) (hn : n < 2 * j + 2) (k : Fin 128) (r : Fin 256) (y : S16x128x256.Idx) (h0 : (y 0).val = n)
    (h1 : (y 1).val = k.val) (h2 : (y 2).val = r.val) : rd V.a14.view L.l4 y = _root_.Attn.sE X K ⟨n, by omega⟩ k (pos j hj r) := by
  rw [hL.h4, tile4, two_on_stack B.l4 (fun n h s => slabP n h s) (fun n h => prodV V j hj n h) (fun n h => diagV V j hj n h)
    (fun n h => blockV V j hj n h) j hj (fun n h hn => if_pos hn) (fun n h hn => if_neg hn),
    rd_slabs _ _ (fun n h => blockV V j hj n h) _ _ n hn k r y h0 h1 h2, blockV_apply hV]

theorem l5_apply (n : ℕ) (hn : n < 2 * j + 2) (r : Fin 256) (y : S16x256.Idx) (h0 : (y 0).val = n) (h1 : (y 1).val = r.val) :
    rd V.a15.view L.l5 y = Finset.univ.fold max (⊥ : EReal) fun k => _root_.Attn.sE X K ⟨n, by omega⟩ k (pos j hj r) := by
  rw [hL.h5, tile5, two_on_stack B.l5 (fun n h s => rowP n h s) (fun n h => colMax (prodV V j hj n h)) (fun n h => colMax (diagV V j hj n h))
    (fun n h => colMax (blockV V j hj n h)) j hj (fun n h hn => by rw [blockV, if_pos hn]) (fun n h hn => by rw [blockV, if_neg hn]),
    rd_rows _ _ (fun n h => colMax (blockV V j hj n h)) _ _ n hn r y h0 h1, colMax_apply]
  simp only [blockV_apply hV]

theorem tileC_apply (n : Fin (2 * j + 2)) (r : Fin 256) :
    tileC V j hj E (ix2 n r) = ((_root_.Attn.C X K ⟨n.val, by omega⟩ (pos j hj r) : ℝ) : EReal) := by
  unfold tileC ldRows
  rw [cV_apply, readCov_apply, readCov_apply, hV.ks _ ⟨n.val, by omega⟩, hV.qs _ (pos j hj r), ← EReal.coe_mul, ← EReal.coe_mul]
  · rfl
  · show 256 * j + 1 * r.val = 256 * j + r.val; omega
  · show 0 + 1 * n.val = n.val; omega

theorem tileT_apply (n : Fin (2 * j + 2)) (r : Fin 256) :
    tileT V j hj E L (ix2 n r) = Finset.univ.fold max (⊥ : EReal) fun k => _root_.Attn.tE X K ⟨n.val, by omega⟩ k (pos j hj r) := by
  rw [← _root_.Attn.bm_mul, ← tileC_apply hV hL, ← l5_apply hV hL n.val n.isLt r
    ((Rect.unit (s := S16x256) ![0, 0] (⟨2, ![2 * j + 2, 256]⟩ : Shape).size (inbFront (by omega))).emb (ix2 n r))
    (show 0 + 1 * n.val = n.val by omega) (show 0 + 1 * r.val = r.val by omega)]
  rfl

theorem tileM_apply (r : Fin 256) : mV E (tileT V j hj E L) (ix2 0 r) = ((_root_.Attn.mx X K (pos j hj r) : ℝ) : EReal) := by
  rw [mV_apply]
  simp only [tileT_apply hV hL]
  exact _root_.Attn.mx_eq X K (by omega) (show 256 * j + r.val < 128 * (2 * j + 2) by omega)

theorem tileE_apply (n : Fin (2 * j + 2)) (r : Fin 256) :
    eV E (tileT V j hj E L) (ix2 n r) = BitVec.ofInt 32 (_root_.Attn.eP X K ⟨n.val, by omega⟩ (pos j hj r)) := by
  rw [eV_apply E (by omega), tileM_apply hV hL, tileT_apply hV hL, _root_.Attn.exp2_fold, ← EReal.coe_mul, _root_.Attn.expWord_eq]
  · rfl
  · exact (_root_.Attn.A_mul_lt X K _ _).trans (by norm_num)

theorem soT_apply (n : Fin (2 * j + 2)) (r : Fin 256) : soV E (tileT V j hj E L) (ix2 n r) =
    (((_root_.Attn.mx X K (pos j hj r) : ℝ) : EReal) + ((_root_.Attn.eP X K ⟨n.val, by omega⟩ (pos j hj r) : ℝ) : EReal) : EReal) := by
  have h1 := _root_.Attn.eP_le X K ⟨n.val, by omega⟩ (pos j hj r)
  have h2 := _root_.Attn.le_eP X K ⟨n.val, by omega⟩ (pos j hj r)
  rw [soV_apply, tileM_apply hV hL, tileE_apply hV hL, _root_.Attn.toInt_ofInt _ (by omega) (by omega)]

theorem peT_apply (n : Fin (2 * j + 2)) (r : Fin 256) :
    peV E (tileT V j hj E L) (ix2 n r) = ((2 ^ _root_.Attn.eP X K ⟨n.val, by omega⟩ (pos j hj r) : ℝ) : EReal) := by
  have h1 := _root_.Attn.eP_le X K ⟨n.val, by omega⟩ (pos j hj r)
  have h2 := _root_.Attn.le_eP X K ⟨n.val, by omega⟩ (pos j hj r)
  unfold peV
  rw [powV_apply, tileE_apply hV hL, _root_.Attn.powWord_ofInt _ (by omega) (by omega)]

theorem tileP_apply (n : ℕ) (hn : n < 2 * j + 2) (k : Fin 128) (r : Fin 256) : tileP V L n (by omega) (ix2 k r) =
    ((_root_.Attn.P X K ⟨n, by omega⟩ k (pos j hj r) * 2 ^ (-_root_.Attn.eP X K ⟨n, by omega⟩ (pos j hj r)) : ℝ) : EReal) := by
  unfold tileP ldSlab ldRow
  rw [pV_apply, readCov_apply, readCov_apply, readCov_apply, l4_apply hV hL n hn k r, hL.h6, hL.h7, rd_front _ _ _ _ _ ⟨n, hn⟩ r,
    rd_front _ _ _ _ _ ⟨n, hn⟩ r, tileC_apply hV hL, soT_apply hV hL, _root_.Attn.sE_mul, _root_.Attn.exp2_p]
  · show n + 1 * 0 = n; omega
  · show 0 + 1 * r.val = r.val; omega
  · show n + 1 * 0 = n; omega
  · show 0 + 1 * r.val = r.val; omega
  · show n + 1 * 0 = n; omega
  · show 0 + 1 * k.val = k.val; omega
  · show 0 + 1 * r.val = r.val; omega

theorem tileA_apply (n : ℕ) (hn : n < 2 * j + 2) (d : Fin 128) (r : Fin 256) : tileA V L n (by omega) (ix2 d r) =
    ((_root_.Attn.part X K W ⟨n, by omega⟩ (pos j hj r) d : ℝ) : EReal) := by
  unfold tileA ldRow vtV
  rw [avV_apply, readCov_apply _ L.l8, hL.h8, rd_front _ _ _ _ _ ⟨n, hn⟩ r]
  · unfold _root_.Attn.part
    rw [EReal.coe_mul, _root_.Attn.coe_sum]
    congr 1
    · refine Finset.sum_congr rfl fun k _ => ?_
      rw [tileP_apply hV hL n hn, _root_.Attn.clip_coe, readCov_apply, hV.v _ (key n (by omega) k) d, hi_key, lo_key, ← EReal.coe_mul]
      · show 128 * n + 1 * k.val = 128 * n + k.val; omega
      · show 0 + 1 * d.val = d.val; omega
    · show peV E (tileT V j hj E L) (ix2 ⟨n, hn⟩ r) * ldRows V.a12 V.vsL (2 * j + 2) _ (ix2 ⟨n, hn⟩ r) = _
      unfold ldRows
      rw [peT_apply hV hL, readCov_apply, hV.vs _ ⟨n, by omega⟩, ← EReal.coe_mul]
      show 0 + 1 * n = n; omega
  · show n + 1 * 0 = n; omega
  · show 0 + 1 * r.val = r.val; omega

theorem accL_apply {n : ℕ} {l : List (View.Piece (Elt Ideal) S128x256 .f32)} (hl : AccL V L B.l11 n l) (hn : n < 2 * j + 2) (d : Fin 128)
    (r : Fin 256) : rd V.a21.view l (ix2 d r) =
      ((∑ m : Fin (n + 1), _root_.Attn.part X K W ⟨m.val, by omega⟩ (pos j hj r) d : ℝ) : EReal) := by
  induction hl with
  | zero h =>
    rw [rd_acc, tileA_apply hV hL 0 hn]
    simp
  | @succ n l h hl ih =>
    rw [rd_acc]
    show ldAcc V.a21 l (ix2 d r) + tileA V L (n + 1) h (ix2 d r) = _
    have he : ldAcc V.a21 l (ix2 d r) = rd V.a21.view l (ix2 d r) := by
      unfold ldAcc
      rw [readCov_apply]
      congr 1
      funext i
      match i with
      | 0 => exact Fin.ext (show 0 + 1 * d.val = d.val by omega)
      | 1 => exact Fin.ext (show 0 + 1 * r.val = r.val by omega)
    rw [he, ih (by omega), tileA_apply hV hL (n + 1) hn, ← EReal.coe_add, Fin.sum_univ_castSucc (n := n + 1)]
    rfl

/-- A tile's results are the attention of its queries. -/
theorem tileY_apply (r : Fin 256) (d : Fin 128) : tileY V j hj E L (ix3 0 r d) = _root_.Attn.Y X K W (pos j hj r) d := by
  have hpos : (pos j hj r).val = 256 * j + r.val := rfl
  unfold tileY
  rw [yV_apply]
  have hacc : ldAcc V.a21 L.l11 (ix2 d r) = ((∑ n, _root_.Attn.part X K W n (pos j hj r) d : ℝ) : EReal) := by
    unfold ldAcc
    rw [readCov_apply]
    have he : (Rect.unit (s := S128x256) ![0, 0] S128x256.size inbAcc).emb (ix2 d r) = ix2 d r := by
      funext i
      match i with
      | 0 => exact Fin.ext (show 0 + 1 * d.val = d.val by omega)
      | 1 => exact Fin.ext (show 0 + 1 * r.val = r.val by omega)
    rw [he, accL_apply hV hL hL.h11 (by omega), sum_front (N := 2 * j + 1 + 1) (by omega) fun n => _root_.Attn.part X K W n (pos j hj r) d]
    exact fun n hn => _root_.Attn.part_after X K W (by omega) d
  have hl : (∑ n : Fin (2 * j + 2), (ldRows V.a20 L.l10 (2 * j + 2) (by omega) (ix2 n r) * ldRows V.a19 L.l9 (2 * j + 2) (by omega) (ix2 n r) : EReal))
      = ((_root_.Attn.L X K (pos j hj r) : ℝ) : EReal) := by
    unfold _root_.Attn.L
    rw [← sum_front (N := 2 * j + 2) (by omega) (fun n => ∑ k, _root_.Attn.P X K n k (pos j hj r))
      fun n hn => Finset.sum_eq_zero fun k _ => _root_.Attn.P_after X K (by omega) k, _root_.Attn.coe_sum]
    refine Finset.sum_congr rfl fun n _ => ?_
    unfold ldRows
    rw [readCov_apply, readCov_apply, hL.h9, rd_front _ _ _ _ _ n r, hL.h10,
      rd_rows _ _ (fun n h => colSum (tileP V L n h)) _ _ n.val n.isLt r, colSum_apply, peT_apply hV hL]
    · simp only [tileP_apply hV hL n.val n.isLt]
      rw [← _root_.Attn.coe_sum, ← EReal.coe_mul, ← Finset.sum_mul, mul_assoc, ← zpow_add₀ (by norm_num), neg_add_cancel, zpow_zero, mul_one]
    · show 0 + 1 * n.val = n.val; omega
    · show 0 + 1 * r.val = r.val; omega
    · show 0 + 1 * n.val = n.val; omega
    · show 0 + 1 * r.val = r.val; omega
  rw [hacc, hl]
  rfl

end Cert.KernelIdeal.Attn
-- ==== Proof.Windows.lean ====
/-
  What each of the kernel's five result windows holds, element by element.
-/
module

public import proofs.«01_k».proof.Proof.Outs
public import proofs.«01_k».proof.Proof.Tile

@[expose] public section

noncomputable section

namespace Cert.KernelIdeal.Attn

open Idealize.ShloMosaic Cert.KernelIdeal Cert.KernelIdeal.Gen
open _root_.Attn (Blk amax qexp scal scales clip code c448 hi lo)

variable (c : Dev nD) (i : grid0.Coords)
  (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .fp8e4m3) (harg6 : arg6.IsWhole)
  (arg7 : Memref sig .tc .vmem S1x2048x128 .fp8e4m3) (harg7 : arg7.IsWhole)
  (arg8 : Memref sig .tc .vmem S1x2048x128 .fp8e4m3) (harg8 : arg8.IsWhole)
  (arg9 : Memref sig .tc .vmem S1x48x128 .f32) (harg9 : arg9.IsWhole)
  (arg10 : Memref sig .tc .vmem S128x2048 .fp8e4m3) (harg10 : arg10.IsWhole)
  (arg11 : Memref sig .tc .vmem S16x256 .f32) (harg11 : arg11.IsWhole)
  (arg12 : Memref sig .tc .vmem S16x256 .f32) (harg12 : arg12.IsWhole)
  (arg13 : Memref sig .tc .vmem S1x2048 .f32) (harg13 : arg13.IsWhole)
  (arg14 : Memref sig .tc .vmem S16x128x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (arg18 : Memref sig .tc .vmem S16x256 .f32) (harg18 : arg18.IsWhole)
  (arg19 : Memref sig .tc .vmem S16x256 .f32) (harg19 : arg19.IsWhole)
  (arg20 : Memref sig .tc .vmem S16x256 .f32) (harg20 : arg20.IsWhole)
  (arg21 : Memref sig .tc .vmem S128x256 .f32) (harg21 : arg21.IsWhole)
  (x0 x1 x2 : Vec Ideal S1x2048x128 .bf16)

variable {X K W : Fin 16 → Blk} (hX : Win x0 X) (hK : Win x1 K) (hW : Win x2 W)

include hX hK hW

/-- The tiles of the run read the codes and scales of the windows. -/
theorem env_holds : (env c arg2 harg2 arg3 harg3 arg4 harg4 arg6 arg7 arg10 arg11 arg12 arg13 arg14 arg15 arg16 arg17 arg18 arg19 arg20 arg21 x0 x1 x2).Holds X K W where
  q := by
    intro y s d h1 h2
    show rd arg6.view (kernelRun0_A.sl.H4_16 c arg2 harg2 x0) y = _
    rw [h4_eq]
    exact rd_codesL _ hX y s d h1 h2
  k := by
    intro y s d h1 h2
    show rd arg7.view (kernelRun0_A.sl.H5_16 c arg3 harg3 x1) y = _
    rw [h5_eq]
    exact rd_codesL _ hK y s d h1 h2
  v := by
    intro y s d h1 h2
    show rd arg10.view (kernelRun0_A.sl.HS0_16 c arg4 harg4 x2) y = _
    rw [hs0_eq]
    exact rd_codesTL _ hW y s d h1 h2
  ks := by
    intro y n h
    show rd arg11.view (kernelRun0_A.sl.HS1_16 c arg3 harg3 x1) y = _
    rw [hs1_eq]
    exact rd_rowsL _ hK y n h
  vs := by
    intro y n h
    show rd arg12.view (kernelRun0_A.sl.HS2_16 c arg4 harg4 x2) y = _
    rw [hs2_eq]
    exact rd_rowsL _ hW y n h
  qs := by
    intro y s h
    show rd arg13.view (kernelRun0_A.sl.HS3_16 c arg2 harg2 x0) y = _
    rw [hs3_eq]
    exact rd_lanesL _ hX y s h

omit hX hK hW in
/-- A tile's piece holds the attention at its places. -/
theorem yP_apply {V : Env} (hV : V.Holds X K W) {j : ℕ} {hj : j < 8} {E : EvT (2 * j + 2)} {B L : Lists} (hL : IsTile V j hj E B L)
    (x : (yP V j hj E L).1.shape.Idx) : (yP V j hj E L).2 x =
      (fun y : S1x2048x128.Idx => _root_.Attn.Y X K W (y 1) (y 2)) ((yP V j hj E L).1.emb x) := by
  have hx : x = (ix3 0 (x 1) (x 2) : S1x256x128.Idx) := by
    funext i
    match i with
    | 0 => exact Fin.ext (by have h1 : (x 0).val < 1 := (x 0).isLt; show (x 0).val = 0; omega)
    | 1 => rfl
    | 2 => rfl
  have h := tileY_apply hV hL (x 1) (x 2)
  rw [← hx] at h
  refine h.trans ?_
  show _root_.Attn.Y X K W _ _ = _root_.Attn.Y X K W _ _
  congr 1
  · exact Fin.ext (show 256 * j + (x 1).val = 256 * j + 1 * (x 1).val by omega)
  · exact Fin.ext (show (x 2).val = 0 + 1 * (x 2).val by omega)

/-- The first window holds the attention. -/
theorem out3_apply (y : S1x2048x128.Idx) : out0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 y = _root_.Attn.Y X K W (y 1) (y 2) := by
  have hV := env_holds c arg2 harg2 arg3 harg3 arg4 harg4 arg6 arg7 arg10 arg11 arg12 arg13 arg14 arg15 arg16 arg17 arg18 arg19 arg20 arg21 x0 x1 x2 hX hK hW
  unfold out0_A_3
  refine View.read_writes_apply_of_pieces VO0_3 VO0_3.junk (fun y : S1x2048x128.Idx => _root_.Attn.Y X K W (y 1) (y 2)) _ ?_ y (cover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 y)
  rw [comp3]
  unfold yL
  simp only [List.forall_mem_cons]
  exact ⟨yP_apply hV (isTile7 c arg2 harg2 arg3 harg3 arg4 harg4 arg6 arg7 arg10 arg11 arg12 arg13 arg14 arg15 arg16 arg17 arg18 arg19 arg20 arg21 x0 x1 x2), yP_apply hV (isTile6 c arg2 harg2 arg3 harg3 arg4 harg4 arg6 arg7 arg10 arg11 arg12 arg13 arg14 arg15 arg16 arg17 arg18 arg19 arg20 arg21 x0 x1 x2), yP_apply hV (isTile5 c arg2 harg2 arg3 harg3 arg4 harg4 arg6 arg7 arg10 arg11 arg12 arg13 arg14 arg15 arg16 arg17 arg18 arg19 arg20 arg21 x0 x1 x2), yP_apply hV (isTile4 c arg2 harg2 arg3 harg3 arg4 harg4 arg6 arg7 arg10 arg11 arg12 arg13 arg14 arg15 arg16 arg17 arg18 arg19 arg20 arg21 x0 x1 x2), yP_apply hV (isTile3 c arg2 harg2 arg3 harg3 arg4 harg4 arg6 arg7 arg10 arg11 arg12 arg13 arg14 arg15 arg16 arg17 arg18 arg19 arg20 arg21 x0 x1 x2), yP_apply hV (isTile2 c arg2 harg2 arg3 harg3 arg4 harg4 arg6 arg7 arg10 arg11 arg12 arg13 arg14 arg15 arg16 arg17 arg18 arg19 arg20 arg21 x0 x1 x2), yP_apply hV (isTile1 c arg2 harg2 arg3 harg3 arg4 harg4 arg6 arg7 arg10 arg11 arg12 arg13 arg14 arg15 arg16 arg17 arg18 arg19 arg20 arg21 x0 x1 x2), yP_apply hV (isTile0 c arg2 harg2 arg3 harg3 arg4 harg4 arg6 arg7 arg10 arg11 arg12 arg13 arg14 arg15 arg16 arg17 arg18 arg19 arg20 arg21 x0 x1 x2), fun _ h => absurd h List.not_mem_nil⟩

omit hK hW in
theorem out4_apply (y : S1x2048x128.Idx) : out0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 y = ((code (X (hi (y 1))) (lo (y 1)) (y 2) : ℝ) : EReal) := by
  unfold out0_A_4
  rw [comp4]
  exact rd_codesL _ hX y (y 1) (y 2) rfl rfl

omit hX hW in
theorem out5_apply (y : S1x2048x128.Idx) : out0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 y = ((code (K (hi (y 1))) (lo (y 1)) (y 2) : ℝ) : EReal) := by
  unfold out0_A_5
  rw [comp5]
  exact rd_codesL _ hK y (y 1) (y 2) rfl rfl

omit hX hK in
theorem out6_apply (y : S1x2048x128.Idx) : out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 y = ((code (W (hi (y 1))) (lo (y 1)) (y 2) : ℝ) : EReal) := by
  unfold out0_A_6
  rw [comp6]
  exact rd_codesL _ hW y (y 1) (y 2) rfl rfl

theorem out7_apply (y : S1x48x128.Idx) : out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 y = ((scales X K W (y 1) : ℝ) : EReal) := by
  have hy : (y 1).val < 48 := (y 1).isLt
  unfold out0_A_7
  rw [comp7]
  show rd _ _ y = _
  unfold scales
  by_cases h1 : (y 1).val < 16
  · rw [if_pos h1, rd_scalesL_miss _ _ _ _ y (by omega), rd_scalesL_miss _ _ _ _ y (by omega),
      rd_scalesL _ _ _ _ hX y ⟨(y 1).val % 16, by omega⟩ (by show (y 1).val = 0 + (y 1).val % 16; omega)]
  · rw [if_neg h1]
    by_cases h2 : (y 1).val < 32
    · rw [if_pos h2, rd_scalesL_miss _ _ _ _ y (by omega),
        rd_scalesL _ _ _ _ hK y ⟨(y 1).val % 16, by omega⟩ (by show (y 1).val = 16 + (y 1).val % 16; omega)]
    · rw [if_neg h2, rd_scalesL _ _ _ _ hW y ⟨(y 1).val % 16, by omega⟩ (by show (y 1).val = 32 + (y 1).val % 16; omega)]

end Cert.KernelIdeal.Attn
-- ==== Proof.RefSem.lean ====
/-
  The softmax of a row of 2048 keys, in base e, against the same in base 2 block by block.
-/
module

public import proofs.«01_k».proof.Proof.Sem

@[expose] public section

noncomputable section

namespace Attn

open Idealize.ShloMosaic

/-- The position of place `k` of block `n`. -/
def pos (n : Fin 16) (k : Fin 128) : Fin 2048 := ⟨n.val * 128 + k.val, by omega⟩

theorem pos_hi_lo (s : Fin 2048) : pos (hi s) (lo s) = s := Fin.ext (by show s.val / 128 * 128 + s.val % 128 = s.val; omega)

theorem hi_pos (n : Fin 16) (k : Fin 128) : hi (pos n k) = n := Fin.ext (by show (n.val * 128 + k.val) / 128 = n.val; omega)

theorem lo_pos (n : Fin 16) (k : Fin 128) : lo (pos n k) = k := Fin.ext (by show (n.val * 128 + k.val) % 128 = k.val; omega)

/-- Blocks and places are positions. -/
def posEquiv : Fin 16 × Fin 128 ≃ Fin 2048 where
  toFun p := pos p.1 p.2
  invFun s := (hi s, lo s)
  left_inv p := Prod.ext (hi_pos _ _) (lo_pos _ _)
  right_inv s := pos_hi_lo s

/-- A sum over the positions, block by block. -/
theorem sum_pos (f : Fin 2048 → ℝ) : ∑ s, f s = ∑ n, ∑ k, f (pos n k) := by
  rw [← Equiv.sum_comp posEquiv, Fintype.sum_prod_type]
  rfl

variable (X K : Fin 16 → Blk)

/-- The masked base-e exponents. -/
def uE (n : Fin 16) (k : Fin 128) (s : Fin 2048) : EReal := if ok n k s then ((T X K n k s * Real.log 2 : ℝ) : EReal) else ⊥

theorem log2_pos : 0 < Real.log 2 := Real.log_pos (by norm_num)

/-- The scores are the products times the scales and the softmax scale. -/
theorem uE_eq (n : Fin 16) (k : Fin 128) (s : Fin 2048) (h : ok n k s) :
    uE X K n k s = (((∑ d, code (X (hi s)) (lo s) d * code (K n) k d) * (scal (X (hi s)) * scal (K n) * (Real.sqrt 128)⁻¹) : ℝ) : EReal) := by
  rw [uE, if_pos h, EReal.coe_eq_coe_iff, T, S, C, kap]
  have h2 := log2_pos.ne'
  have hs : (∑ d, code (K n) k d * code (X (hi s)) (lo s) d) = ∑ d, code (X (hi s)) (lo s) d * code (K n) k d :=
    Finset.sum_congr rfl fun d _ => mul_comm _ _
  rw [hs]
  field_simp

/-- The largest base-e exponent of a query. -/
theorem fold_uE (s : Fin 2048) (f : Fin 2048 → EReal) (hf : ∀ n k, f (pos n k) = uE X K n k s) :
    Finset.univ.fold max ⊥ f = ((mx X K s * Real.log 2 : ℝ) : EReal) := by
  refine fold_max_eq bot_le (fun t => ?_) ?_
  · rw [← pos_hi_lo t, hf, uE]
    split
    · next h => exact EReal.coe_le_coe_iff.mpr (mul_le_mul_of_nonneg_right (le_mx X K h) log2_pos.le)
    · exact bot_le
  · obtain ⟨n, k, hk, he⟩ := exists_mx X K s
    exact ⟨pos n k, by rw [hf, uE, if_pos hk, he]⟩

/-- The weights in base e. -/
theorem exp_uE (n : Fin 16) (k : Fin 128) (s : Fin 2048) :
    Ideal.exp (uE X K n k s - ((mx X K s * Real.log 2 : ℝ) : EReal)) = ((P X K n k s : ℝ) : EReal) := by
  unfold uE P
  split
  · rw [← EReal.coe_sub, Ideal.exp_coe, EReal.coe_eq_coe_iff]
    show _ = (2 : ℝ) ^ (_ : ℝ)
    rw [Real.rpow_def_of_pos (by norm_num), ← sub_mul, mul_comm]
  · rw [EReal.bot_sub, Ideal.exp_bot]; rfl

end Attn
-- ==== Proof.Target.lean ====
/-
  The five results as arrays of real numbers: the attention of every head, the codes of the three arguments and the
  scales.
-/
module

public import proofs.«01_k».proof.Proof.RefSem
public import Idealize.ShloMosaic.Lib.Pointwise

@[expose] public section

noncomputable section

namespace Attn

open Idealize.ShloMosaic

/-- An array of a batch's rows. -/
abbrev Arr : Shape := ⟨3, ![8, 2048, 8192]⟩

/-- The head of a column. -/
def hd (j : Fin 8192) : Fin 64 := ⟨j.val / 128, by omega⟩

/-- The place of a column in its head. -/
def ln (j : Fin 8192) : Fin 128 := ⟨j.val % 128, by omega⟩

/-- The column of a place of a head. -/
def col (h : Fin 64) (d : Fin 128) : Fin 8192 := ⟨h.val * 128 + d.val, by omega⟩

theorem col_hd_ln (j : Fin 8192) : col (hd j) (ln j) = j := Fin.ext (by show j.val / 128 * 128 + j.val % 128 = j.val; omega)

/-- The batch of a row of scales. -/
def pb (t : Fin 512) : Fin 8 := ⟨t.val / 64, by omega⟩

/-- The head of a row of scales. -/
def ph (t : Fin 512) : Fin 64 := ⟨t.val % 64, by omega⟩

/-- The real numbers of a head, block by block. -/
def headF (a : Vec Ideal Arr .bf16) (b : Fin 8) (h : Fin 64) : Fin 16 → Blk := fun n k d =>
  EReal.toReal (a (ix3 b (pos n k) (col h d)))

/-- An array of real numbers below `2^128`. -/
def FiniteArr (a : Vec Ideal Arr .bf16) : Prop :=
  ∀ i, a i = ((EReal.toReal (a i) : ℝ) : EReal) ∧ |EReal.toReal (a i)| < 2 ^ (128 : ℤ)

/-- The attention of every head. -/
def GY (a0 a1 a2 : Vec Ideal Arr .bf16) : Vec Ideal Arr .bf16 := fun i =>
  Y (headF a0 (i 0) (hd (i 2))) (headF a1 (i 0) (hd (i 2))) (headF a2 (i 0) (hd (i 2))) (i 1) (ln (i 2))

/-- The codes of an argument. -/
def GC (a : Vec Ideal Arr .bf16) : Vec Ideal Arr .fp8e4m3 := fun i =>
  ((code (headF a (i 0) (hd (i 2)) (hi (i 1))) (lo (i 1)) (ln (i 2)) : ℝ) : EReal)

/-- The scales of the three arguments. -/
def GS (a0 a1 a2 : Vec Ideal Arr .bf16) : Vec Ideal ⟨3, ![512, 48, 128]⟩ .f32 := fun i =>
  ((scales (headF a0 (pb (i 0)) (ph (i 0))) (headF a1 (pb (i 0)) (ph (i 0))) (headF a2 (pb (i 0)) (ph (i 0))) (i 1) : ℝ) : EReal)

end Attn
-- ==== Proof.KernelValue.lean ====
/-
  The kernel's five result arrays after the run.
-/
module

public import proofs.«01_k».proof.Proof.Windows
public import proofs.«01_k».proof.Proof.Target
public import proofs.«01_k».proof.Proof.Gen.KernelIdeal.Value

@[expose] public section

noncomputable section

namespace Cert.KernelIdeal.Attn

open Idealize.ShloMosaic Cert.KernelIdeal Cert.KernelIdeal.Gen Cert.KernelIdeal.Value
open _root_.Attn (Blk scal scales code hi lo pos col hd ln pb ph headF FiniteArr GY GC GS)

/-- The place of the array that holds a block's place, at grid point `t`. -/
def at_ (t : Fin cfg0.N) (j : S1x2048x128.Idx) : S8x2048x8192.Idx := ix3 (pb t) (j 1) (col (ph t) (j 2))

/-- The grid point of a place of the array. -/
def pt (i : S8x2048x8192.Idx) : Fin cfg0.N := (⟨64 * (i 0).val + (hd (i 2)).val, by
  have h1 : (i 0).val < 8 := (i 0).isLt
  have h2 := (hd (i 2)).isLt
  omega⟩ : Fin 512)

/-- Its place in the point's block. -/
def place (i : S8x2048x8192.Idx) : S1x2048x128.Idx := ix3 0 (i 1) (ln (i 2))

theorem pb_pt (i : S8x2048x8192.Idx) : pb (pt i) = i 0 := Fin.ext (by
  have h2 := (hd (i 2)).isLt
  show (64 * (i 0).val + (hd (i 2)).val) / 64 = (i 0).val
  omega)

theorem ph_pt (i : S8x2048x8192.Idx) : ph (pt i) = hd (i 2) := Fin.ext (by
  have h2 := (hd (i 2)).isLt
  show (64 * (i 0).val + (hd (i 2)).val) % 64 = (hd (i 2)).val
  omega)

theorem at_pt (i : S8x2048x8192.Idx) : at_ (pt i) (place i) = i := by
  unfold at_
  rw [pb_pt, ph_pt]
  funext a
  match a with
  | 0 => rfl
  | 1 => rfl
  | 2 => exact _root_.Attn.col_hd_ln (i 2)

theorem hd_col (h : Fin 64) (d : Fin 128) : hd (col h d) = h := Fin.ext (by show (h.val * 128 + d.val) / 128 = h.val; omega)

theorem ln_col (h : Fin 64) (d : Fin 128) : ln (col h d) = d := Fin.ext (by show (h.val * 128 + d.val) % 128 = d.val; omega)

theorem GY_col (a0 a1 a2 : Vec Ideal S8x2048x8192 .bf16) (t : Fin 512) (s : Fin 2048) (d : Fin 128) :
    GY a0 a1 a2 (ix3 (pb t) s (col (ph t) d)) = _root_.Attn.Y (headF a0 (pb t) (ph t)) (headF a1 (pb t) (ph t)) (headF a2 (pb t) (ph t)) s d := by
  show _root_.Attn.Y (headF a0 (pb t) (hd (col (ph t) d))) (headF a1 (pb t) (hd (col (ph t) d)))
    (headF a2 (pb t) (hd (col (ph t) d))) s (ln (col (ph t) d)) = _
  rw [hd_col, ln_col]

theorem GC_col (a : Vec Ideal S8x2048x8192 .bf16) (t : Fin 512) (s : Fin 2048) (d : Fin 128) :
    GC a (ix3 (pb t) s (col (ph t) d)) = ((code (headF a (pb t) (ph t) (hi s)) (lo s) d : ℝ) : EReal) := by
  show ((code (headF a (pb t) (hd (col (ph t) d)) (hi s)) (lo s) (ln (col (ph t) d)) : ℝ) : EReal) = _
  rw [hd_col, ln_col]

/-- The attention at a place of a block. -/
theorem GY_at (a0 a1 a2 : Vec Ideal S8x2048x8192 .bf16) (t : Fin cfg0.N) (j : S1x2048x128.Idx) :
    GY a0 a1 a2 (at_ t j) = _root_.Attn.Y (headF a0 (pb t) (ph t)) (headF a1 (pb t) (ph t)) (headF a2 (pb t) (ph t)) (j 1) (j 2) :=
  GY_col a0 a1 a2 t (j 1) (j 2)

/-- The codes at a place of a block. -/
theorem GC_at (a : Vec Ideal S8x2048x8192 .bf16) (t : Fin cfg0.N) (j : S1x2048x128.Idx) :
    GC a (at_ t j) = ((code (headF a (pb t) (ph t) (hi (j 1))) (lo (j 1)) (j 2) : ℝ) : EReal) :=
  GC_col a t (j 1) (j 2)

/-- A block read from an array of finite numbers holds the head. -/
theorem win_of {a : Vec Ideal S8x2048x8192 .bf16} {x : Vec Ideal S1x2048x128 .bf16} {t : Fin cfg0.N} (h : FiniteArr a)
    (hx : ∀ j, x j = a (at_ t j)) : Win x (headF a (pb t) (ph t)) := by
  refine ⟨fun s d => ?_, fun n k d => (h _).2⟩
  rw [hx]
  unfold headF
  rw [_root_.Attn.pos_hi_lo]
  exact (h _).1

variable (m : (ℓ : Loc nD τ sig) → Buf (Elt Ideal) ℓ)

/-- The three arguments as launched. -/
abbrev arg0 (c : Dev nD) : Vec Ideal S8x2048x8192 .bf16 := m (Thread.loc (nD := nD) (τ := τ) c.tc main_arg0)
abbrev arg1 (c : Dev nD) : Vec Ideal S8x2048x8192 .bf16 := m (Thread.loc (nD := nD) (τ := τ) c.tc main_arg1)
abbrev arg2 (c : Dev nD) : Vec Ideal S8x2048x8192 .bf16 := m (Thread.loc (nD := nD) (τ := τ) c.tc main_arg2)

theorem idx0 : ∀ t : Fin cfg0.N, win0_0.index t (0 : Fin 3) = t.val / 64 ∧ win0_0.index t (1 : Fin 3) = 0 ∧ win0_0.index t (2 : Fin 3) = t.val % 64 :=
  (by decide +kernel : ∀ t : Fin grid0.N, _)

theorem emb0 (t : Fin cfg0.N) (j : S1x2048x128.Idx) : ((cfg0.win 0).blk t).view.emb j = at_ t j := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val / 64; omega
  | ⟨1, _⟩ => show win0_0.index t (1 : Fin 3) * 2048 + 1 * (j 1).val = (j 1).val; omega
  | ⟨2, _⟩ => show win0_0.index t (2 : Fin 3) * 128 + 1 * (j 2).val = t.val % 64 * 128 + (j 2).val; omega

theorem idx1 : ∀ t : Fin cfg0.N, win0_1.index t (0 : Fin 3) = t.val / 64 ∧ win0_1.index t (1 : Fin 3) = 0 ∧ win0_1.index t (2 : Fin 3) = t.val % 64 :=
  (by decide +kernel : ∀ t : Fin grid0.N, _)

theorem emb1 (t : Fin cfg0.N) (j : S1x2048x128.Idx) : ((cfg0.win 1).blk t).view.emb j = at_ t j := by
  obtain ⟨e0, e1, e2⟩ := idx1 t
  have h0 : (j 0).val < 1 := (j 0).isLt
  funext a; apply Fin.ext
  match a with
  | ⟨0, _⟩ => show win0_1.index t (0 : Fin 3) * 1 + 1 * (j 0).val = t.val / 64; omega
  | ⟨1, _⟩ => show win0_1.index t (1 : Fin 3) * 2048 + 1 * (j 1).val = (j 1).val; omega
  | ⟨2, _⟩ => show win0_1.index t (2 : Fin 3) * 128 + 1 * (j 2).val = t.val % 64 * 128 + (j 2).val; omega

theorem idx2 : ∀ t : Fin cfg0.N, win0_2.index t (0 : Fin 3) = t.val / 64 ∧ win0_2.index t (1 : Fin 3) = 0 ∧ win0_2.index t (2 : Fin 3) = t.val % 64 :=
  (by decide +kernel : ∀ t : Fin grid0.N, _)

theorem emb2 (t : Fin cfg0.N) (j : S1x2048x128.Idx) : ((cfg0.win 2).blk t).view.emb j = at_ t j := by
  obtain ⟨e0, e1, e2⟩ := idx2 t
  have h0 : (j 0).val < 1 := (j 0).isLt
  funext a; apply Fin.ext
  match a with
  | ⟨0, _⟩ => show win0_2.index t (0 : Fin 3) * 1 + 1 * (j 0).val = t.val / 64; omega
  | ⟨1, _⟩ => show win0_2.index t (1 : Fin 3) * 2048 + 1 * (j 1).val = (j 1).val; omega
  | ⟨2, _⟩ => show win0_2.index t (2 : Fin 3) * 128 + 1 * (j 2).val = t.val % 64 * 128 + (j 2).val; omega

theorem idx3 : ∀ t : Fin cfg0.N, win0_3.index t (0 : Fin 3) = t.val / 64 ∧ win0_3.index t (1 : Fin 3) = 0 ∧ win0_3.index t (2 : Fin 3) = t.val % 64 :=
  (by decide +kernel : ∀ t : Fin grid0.N, _)

theorem emb3 (t : Fin cfg0.N) (j : S1x2048x128.Idx) : ((cfg0.win 3).blk t).view.emb j = at_ t j := by
  obtain ⟨e0, e1, e2⟩ := idx3 t
  have h0 : (j 0).val < 1 := (j 0).isLt
  funext a; apply Fin.ext
  match a with
  | ⟨0, _⟩ => show win0_3.index t (0 : Fin 3) * 1 + 1 * (j 0).val = t.val / 64; omega
  | ⟨1, _⟩ => show win0_3.index t (1 : Fin 3) * 2048 + 1 * (j 1).val = (j 1).val; omega
  | ⟨2, _⟩ => show win0_3.index t (2 : Fin 3) * 128 + 1 * (j 2).val = t.val % 64 * 128 + (j 2).val; omega

theorem idx4 : ∀ t : Fin cfg0.N, win0_4.index t (0 : Fin 3) = t.val / 64 ∧ win0_4.index t (1 : Fin 3) = 0 ∧ win0_4.index t (2 : Fin 3) = t.val % 64 :=
  (by decide +kernel : ∀ t : Fin grid0.N, _)

theorem emb4 (t : Fin cfg0.N) (j : S1x2048x128.Idx) : ((cfg0.win 4).blk t).view.emb j = at_ t j := by
  obtain ⟨e0, e1, e2⟩ := idx4 t
  have h0 : (j 0).val < 1 := (j 0).isLt
  funext a; apply Fin.ext
  match a with
  | ⟨0, _⟩ => show win0_4.index t (0 : Fin 3) * 1 + 1 * (j 0).val = t.val / 64; omega
  | ⟨1, _⟩ => show win0_4.index t (1 : Fin 3) * 2048 + 1 * (j 1).val = (j 1).val; omega
  | ⟨2, _⟩ => show win0_4.index t (2 : Fin 3) * 128 + 1 * (j 2).val = t.val % 64 * 128 + (j 2).val; omega

theorem idx5 : ∀ t : Fin cfg0.N, win0_5.index t (0 : Fin 3) = t.val / 64 ∧ win0_5.index t (1 : Fin 3) = 0 ∧ win0_5.index t (2 : Fin 3) = t.val % 64 :=
  (by decide +kernel : ∀ t : Fin grid0.N, _)

theorem emb5 (t : Fin cfg0.N) (j : S1x2048x128.Idx) : ((cfg0.win 5).blk t).view.emb j = at_ t j := by
  obtain ⟨e0, e1, e2⟩ := idx5 t
  have h0 : (j 0).val < 1 := (j 0).isLt
  funext a; apply Fin.ext
  match a with
  | ⟨0, _⟩ => show win0_5.index t (0 : Fin 3) * 1 + 1 * (j 0).val = t.val / 64; omega
  | ⟨1, _⟩ => show win0_5.index t (1 : Fin 3) * 2048 + 1 * (j 1).val = (j 1).val; omega
  | ⟨2, _⟩ => show win0_5.index t (2 : Fin 3) * 128 + 1 * (j 2).val = t.val % 64 * 128 + (j 2).val; omega

theorem idx6 : ∀ t : Fin cfg0.N, win0_6.index t (0 : Fin 3) = t.val / 64 ∧ win0_6.index t (1 : Fin 3) = 0 ∧ win0_6.index t (2 : Fin 3) = t.val % 64 :=
  (by decide +kernel : ∀ t : Fin grid0.N, _)

theorem emb6 (t : Fin cfg0.N) (j : S1x2048x128.Idx) : ((cfg0.win 6).blk t).view.emb j = at_ t j := by
  obtain ⟨e0, e1, e2⟩ := idx6 t
  have h0 : (j 0).val < 1 := (j 0).isLt
  funext a; apply Fin.ext
  match a with
  | ⟨0, _⟩ => show win0_6.index t (0 : Fin 3) * 1 + 1 * (j 0).val = t.val / 64; omega
  | ⟨1, _⟩ => show win0_6.index t (1 : Fin 3) * 2048 + 1 * (j 1).val = (j 1).val; omega
  | ⟨2, _⟩ => show win0_6.index t (2 : Fin 3) * 128 + 1 * (j 2).val = t.val % 64 * 128 + (j 2).val; omega

/-- Input window 0 holds the head of its point. -/
theorem win0 (c : Dev nD) (t : Fin cfg0.N) (h : FiniteArr (arg0 m c)) :
    Win (iblk m c 0 t) (headF (arg0 m c) (pb t) (ph t)) := by
  refine win_of h fun j => ?_
  show V m c main_arg0 (((cfg0.win 0).blk t).view.emb j) = _
  rw [emb0, V_main_arg0]

/-- Input window 1 holds the head of its point. -/
theorem win1 (c : Dev nD) (t : Fin cfg0.N) (h : FiniteArr (arg1 m c)) :
    Win (iblk m c 1 t) (headF (arg1 m c) (pb t) (ph t)) := by
  refine win_of h fun j => ?_
  show V m c main_arg1 (((cfg0.win 1).blk t).view.emb j) = _
  rw [emb1, V_main_arg1]

/-- Input window 2 holds the head of its point. -/
theorem win2 (c : Dev nD) (t : Fin cfg0.N) (h : FiniteArr (arg2 m c)) :
    Win (iblk m c 2 t) (headF (arg2 m c) (pb t) (ph t)) := by
  refine win_of h fun j => ?_
  show V m c main_arg2 (((cfg0.win 2).blk t).view.emb j) = _
  rw [emb2, V_main_arg2]

theorem cut3 (t : Fin cfg0.N) (x : Vec Ideal S1x2048x128 .bf16) (j : S1x2048x128.Idx) :
    (cfg0.win 3).cut (grid0.coords t) x j = x j := rfl

/-- Result window 3's array after the run. -/
theorem final3 (c : Dev nD) (h0 : FiniteArr (arg0 m c)) (h1 : FiniteArr (arg1 m c)) (h2 : FiniteArr (arg2 m c)) :
    (dats m 0 c).arrAt 3 cfg0.N = GY (arg0 m c) (arg1 m c) (arg2 m c) := by
  refine (dats m 0 c).arrAt_eq_of_cover 3 _ (fun t _ => ?_) fun i => ?_
  · rw [flushed3_A]
    funext j
    rw [cut3]
    rw [out3_apply _ _ _ _ _ _ _ _ _ _ _ _ _ _ _ _ _ _ _ _ _ _ _ _ _ _ _ _ _ _ _ _ _ _ _ _ _ _ _ _ _ _ _ _ _ (win0 m c t h0) (win1 m c t h1) (win2 m c t h2) j]
    show _ = (GY (arg0 m c) (arg1 m c) (arg2 m c)) (((cfg0.win 3).blk t).view.emb j)
    rw [emb3, GY_at]
  · refine ⟨pt i, flush0_3 _, ?_⟩
    have h := ((cfg0.win 3).blk (pt i)).view.emb_mem_set (place i)
    rwa [emb3, at_pt] at h

theorem cut4 (t : Fin cfg0.N) (x : Vec Ideal S1x2048x128 .fp8e4m3) (j : S1x2048x128.Idx) :
    (cfg0.win 4).cut (grid0.coords t) x j = x j := rfl

/-- Result window 4's array after the run. -/
theorem final4 (c : Dev nD) (h0 : FiniteArr (arg0 m c)) :
    (dats m 0 c).arrAt 4 cfg0.N = GC (arg0 m c) := by
  refine (dats m 0 c).arrAt_eq_of_cover 4 _ (fun t _ => ?_) fun i => ?_
  · rw [flushed4_A]
    funext j
    rw [cut4]
    rw [out4_apply _ _ _ _ _ _ _ _ _ _ _ _ _ _ _ _ _ _ _ _ _ _ _ _ _ _ _ _ _ _ _ _ _ _ _ _ _ _ _ _ _ _ _ _ _ (win0 m c t h0) j]
    show _ = (GC (arg0 m c)) (((cfg0.win 4).blk t).view.emb j)
    rw [emb4, GC_at]
  · refine ⟨pt i, flush0_4 _, ?_⟩
    have h := ((cfg0.win 4).blk (pt i)).view.emb_mem_set (place i)
    rwa [emb4, at_pt] at h

theorem cut5 (t : Fin cfg0.N) (x : Vec Ideal S1x2048x128 .fp8e4m3) (j : S1x2048x128.Idx) :
    (cfg0.win 5).cut (grid0.coords t) x j = x j := rfl

/-- Result window 5's array after the run. -/
theorem final5 (c : Dev nD) (h1 : FiniteArr (arg1 m c)) :
    (dats m 0 c).arrAt 5 cfg0.N = GC (arg1 m c) := by
  refine (dats m 0 c).arrAt_eq_of_cover 5 _ (fun t _ => ?_) fun i => ?_
  · rw [flushed5_A]
    funext j
    rw [cut5]
    rw [out5_apply _ _ _ _ _ _ _ _ _ _ _ _ _ _ _ _ _ _ _ _ _ _ _ _ _ _ _ _ _ _ _ _ _ _ _ _ _ _ _ _ _ _ _ _ _ (win1 m c t h1) j]
    show _ = (GC (arg1 m c)) (((cfg0.win 5).blk t).view.emb j)
    rw [emb5, GC_at]
  · refine ⟨pt i, flush0_5 _, ?_⟩
    have h := ((cfg0.win 5).blk (pt i)).view.emb_mem_set (place i)
    rwa [emb5, at_pt] at h

theorem cut6 (t : Fin cfg0.N) (x : Vec Ideal S1x2048x128 .fp8e4m3) (j : S1x2048x128.Idx) :
    (cfg0.win 6).cut (grid0.coords t) x j = x j := rfl

/-- Result window 6's array after the run. -/
theorem final6 (c : Dev nD) (h2 : FiniteArr (arg2 m c)) :
    (dats m 0 c).arrAt 6 cfg0.N = GC (arg2 m c) := by
  refine (dats m 0 c).arrAt_eq_of_cover 6 _ (fun t _ => ?_) fun i => ?_
  · rw [flushed6_A]
    funext j
    rw [cut6]
    rw [out6_apply _ _ _ _ _ _ _ _ _ _ _ _ _ _ _ _ _ _ _ _ _ _ _ _ _ _ _ _ _ _ _ _ _ _ _ _ _ _ _ _ _ _ _ _ _ (win2 m c t h2) j]
    show _ = (GC (arg2 m c)) (((cfg0.win 6).blk t).view.emb j)
    rw [emb6, GC_at]
  · refine ⟨pt i, flush0_6 _, ?_⟩
    have h := ((cfg0.win 6).blk (pt i)).view.emb_mem_set (place i)
    rwa [emb6, at_pt] at h

theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

theorem emb7 (t : Fin cfg0.N) (j : S1x48x128.Idx) : ((cfg0.win 7).blk t).view.emb j = ix3 (t : Fin 512) (j 1) (j 2) := by
  obtain ⟨e0, e1, e2⟩ := idx7 t
  have h0 : (j 0).val < 1 := (j 0).isLt
  funext a; apply Fin.ext
  match a with
  | ⟨0, _⟩ => show win0_7.index t (0 : Fin 3) * 1 + 1 * (j 0).val = t.val; omega
  | ⟨1, _⟩ => show win0_7.index t (1 : Fin 3) * 48 + 1 * (j 1).val = (j 1).val; omega
  | ⟨2, _⟩ => show win0_7.index t (2 : Fin 3) * 128 + 1 * (j 2).val = (j 2).val; omega

theorem cut7 (t : Fin cfg0.N) (x : Vec Ideal S1x48x128 .f32) (j : S1x48x128.Idx) :
    (cfg0.win 7).cut (grid0.coords t) x j = x j := rfl

/-- The grid point of a row of scales. -/
def row (i : S512x48x128.Idx) : Fin cfg0.N := (⟨(i 0).val, (i 0).isLt⟩ : Fin 512)

/-- Result window 7's array after the run. -/
theorem final7 (c : Dev nD) (h0 : FiniteArr (arg0 m c)) (h1 : FiniteArr (arg1 m c))
    (h2 : FiniteArr (arg2 m c)) :
    (dats m 0 c).arrAt 7 cfg0.N = GS (arg0 m c) (arg1 m c) (arg2 m c) := by
  refine (dats m 0 c).arrAt_eq_of_cover 7 _ (fun t _ => ?_) fun i => ?_
  · rw [flushed7_A]
    funext j
    rw [cut7]
    rw [out7_apply _ _ _ _ _ _ _ _ _ _ _ _ _ _ _ _ _ _ _ _ _ _ _ _ _ _ _ _ _ _ _ _ _ _ _ _ _ _ _ _ _ _ _ _ _ (win0 m c t h0) (win1 m c t h1) (win2 m c t h2) j]
    show _ = GS _ _ _ (((cfg0.win 7).blk t).view.emb j)
    rw [emb7]
    rfl
  · refine ⟨row i, flush0_7 _, ?_⟩
    have h := ((cfg0.win 7).blk (row i)).view.emb_mem_set (ix3 0 (i 1) (i 2) : S1x48x128.Idx)
    rw [emb7] at h
    have he : (ix3 (row i : Fin 512) ((ix3 0 (i 1) (i 2) : S1x48x128.Idx) 1) ((ix3 0 (i 1) (i 2) : S1x48x128.Idx) 2) : S512x48x128.Idx) = i := by
      funext a
      match a with
      | 0 => rfl
      | 1 => rfl
      | 2 => rfl
    exact Eq.mp (congrArg (fun z : S512x48x128.Idx => z ∈ ((cfg0.win 7).blk (row i)).view.set) he) h

end Cert.KernelIdeal.Attn
-- ==== Proof.RefQuant.lean ====
/-
  The reference's quantiser of a whole argument, read head by head and block by block.
-/
module

public import proofs.«01_k».proof.Proof.Sem
public import proofs.«01_k».proof.Proof.Gen.ReferenceIdeal.Skeleton
public import Idealize.ShloMosaic.Lib.Pointwise

@[expose] public section

noncomputable section

namespace Cert.ReferenceIdeal.Attn

open Idealize.ShloMosaic Cert.ReferenceIdeal Cert.ReferenceIdeal.Gen
open _root_.Attn (Blk amax qexp scal clip code c448 hi lo)

/-- The head `(b, h)` of an array holds the real numbers `f`, block by block. -/
def Head (a : Vec Ideal S8x2048x8192 .bf16) (b : Fin 8) (h : Fin 64) (f : Fin 16 → Blk) : Prop :=
  (∀ (n : Fin 16) (k d : Fin 128), a (ix3 b ⟨n.val * 128 + k.val, by omega⟩ ⟨h.val * 128 + d.val, by omega⟩) = ((f n k d : ℝ) : EReal))
    ∧ ∀ n k d, |f n k d| < 2 ^ (128 : ℤ)

variable {a : Vec Ideal S8x2048x8192 .bf16} {b : Fin 8} {h : Fin 64} {f : Fin 16 → Blk}

theorem pay2_apply (hf : Head a b h f) (n : Fin 16) (k d : Fin 128) :
    k0_pay2 a (ix5 b n k h d) = ((f n k d : ℝ) : EReal) := by
  pointwise [k0_pay2]
  exact hf.1 n k d

theorem amax_apply (hf : Head a b h f) (n : Fin 16) :
    multiReduction .maximumf [2, 4] S8x16x64 (absf (k0_pay2 a)) 0xFF800000#32 reduces_S8x16x128x64x128_S8x16x64 (.inl rfl) rfl (ix3 b n h)
      = ((amax (f n) : ℝ) : EReal) := by
  refine (multiReduction_maximumf_eq_fold (F := Ideal) ..).trans ?_
  have habs : ∀ k d : Fin 128, absf (k0_pay2 a) (ix5 b n k h d) = ((|f n k d| : ℝ) : EReal) := fun k d => by
    show max (k0_pay2 a (ix5 b n k h d)) (-(k0_pay2 a (ix5 b n k h d))) = _
    rw [pay2_apply hf, ← EReal.coe_neg, ← EReal.coe_strictMono.monotone.map_max, abs_eq_max_neg]
  apply le_antisymm
  · refine (Finset.fold_max_le _).mpr ⟨?_, fun i hi => ?_⟩
    · show Ideal.ofBits .f32 0xFF800000#32 ≤ _
      rw [_root_.Attn.ofBits_bot]; exact bot_le
    · have hi := (Finset.mem_filter.mp hi).2
      have h0 : i 0 = b := congrArg (fun j : S8x16x64.Idx => j 0) hi
      have h1 : i 1 = n := congrArg (fun j : S8x16x64.Idx => j 1) hi
      have h2 : i 3 = h := congrArg (fun j : S8x16x64.Idx => j 2) hi
      have he : i = ix5 b n (i 2) h (i 4) := by
        funext x
        match x with
        | 0 => exact h0
        | 1 => exact h1
        | 2 => rfl
        | 3 => exact h2
        | 4 => rfl
      rw [he]
      refine (habs (i 2) (i 4)).trans_le ?_
      exact EReal.coe_le_coe_iff.mpr (_root_.Attn.le_top (fun p : Fin 128 × Fin 128 => |f n p.1 p.2|) (i 2, i 4))
  · obtain ⟨p, hp⟩ := _root_.Attn.exists_top fun p : Fin 128 × Fin 128 => |f n p.1 p.2|
    refine (Finset.le_fold_max _).mpr (.inr ⟨ix5 b n p.1 h p.2, Finset.mem_filter.mpr ⟨Finset.mem_univ _, ?_⟩, ?_⟩)
    · funext x
      match x with
      | 0 => rfl
      | 1 => rfl
      | 2 => rfl
    · rw [habs, amax, ← hp]

/-- The exponents of the largest absolute values. -/
def expoV (v : FVec Ideal S8x16x64 .f32) : FVec Ideal S8x16x1x64x1 .f32 :=
  let y := mulf (shapeCast S8x16x1x64x1 v shapeCasts_S8x16x64_S8x16x1x64x1) (broadcast S8x16x1x64x1 (Scalar.ofBits .f32 0x3B124925#32))
  select (cmpf .olt y (broadcast S8x16x1x64x1 (Scalar.ofBits .f32 0x00800000#32)))
    (broadcast S8x16x1x64x1 (Scalar.ofBits .f32 0x00000000#32))
    (addf (floor (divf (log y) (broadcast S8x16x1x64x1 (Named.named κ "ln2" 0x3F317218#32))))
      (broadcast S8x16x1x64x1 (Scalar.ofBits .f32 0x3F800000#32)))

theorem pay3_eq : k0_pay3 a = expoV (multiReduction .maximumf [2, 4] S8x16x64 (absf (k0_pay2 a)) 0xFF800000#32
    reduces_S8x16x128x64x128_S8x16x64 (.inl rfl) rfl) := rfl

theorem expoV_apply (v : FVec Ideal S8x16x64 .f32) (n : Fin 16) :
    expoV v (ix5 b n 0 h 0) = _root_.Attn.expLog (v (ix3 b n h) * Ideal.ofBits .f32 0x3B124925#32) := by
  pointwise [expoV, _root_.Attn.expLog]
  rw [show (Named.named κ "ln2" 0x3F317218#32 : Ideal .f32) = ((Real.log 2 : ℝ) : EReal) from
    IdealRules.named_const.ideal_named_scalar _ _ _ _ rfl]

/-- The codes, from the exponents. -/
def codeV (x : FVec Ideal S8x16x128x64x128 .f32) (e : FVec Ideal S8x16x1x64x1 .f32) : FVec Ideal S8x2048x64x128 .fp8e4m3 :=
  shapeCast S8x2048x64x128 (truncf .fp8e4m3 (minimumf (broadcast S8x16x128x64x128 (Scalar.ofBits .f32 0x43E00000#32))
    (maximumf (broadcast S8x16x128x64x128 (Scalar.ofBits .f32 0xC3E00000#32))
      (mulf x (broadcastTo S8x16x128x64x128 (exp2 (subf (broadcast S8x16x1x64x1 (Scalar.ofBits .f32 0x00000000#32)) e))
        broadcasts_S8x16x1x64x1_S8x16x128x64x128)))) bitsLt_fp8e4m3_f32) shapeCasts_S8x16x128x64x128_S8x2048x64x128

theorem pay4_eq : k0_pay4 a = codeV (k0_pay2 a) (k0_pay3 a) := rfl

theorem codeV_apply (x : FVec Ideal S8x16x128x64x128 .f32) (e : FVec Ideal S8x16x1x64x1 .f32) (n : Fin 16) (k d : Fin 128) :
    codeV x e (ix4 b ⟨n.val * 128 + k.val, by omega⟩ h d) =
      min (Ideal.ofBits .f32 0x43E00000#32) (max (Ideal.ofBits .f32 0xC3E00000#32)
        (x (ix5 b n k h d) * Ideal.exp2 (0 - e (ix5 b n 0 h 0)))) := by
  pointwise [codeV]
  rfl

theorem pay5_eq : k0_pay5 a = shapeCast S8x16x64 (exp2 (k0_pay3 a)) shapeCasts_S8x16x1x64x1_S8x16x64 := rfl

theorem scaleV_apply (e : FVec Ideal S8x16x1x64x1 .f32) (n : Fin 16)  :
    shapeCast S8x16x64 (exp2 e) shapeCasts_S8x16x1x64x1_S8x16x64 (ix3 b n h) =
      Ideal.exp2 (e (ix5 b n 0 h 0)) := by
  pointwise []
  rfl

/-! ## The readings -/

theorem pay3_apply (hf : Head a b h f) (n : Fin 16) : k0_pay3 a (ix5 b n 0 h 0) = ((qexp (f n) : ℝ) : EReal) := by
  rw [pay3_eq, expoV_apply, amax_apply hf, _root_.Attn.ofBits_c448, ← EReal.coe_mul, _root_.Attn.expLog_eq, qexp]

/-- The codes of the head. -/
theorem pay4_apply (hf : Head a b h f) (n : Fin 16) (k d : Fin 128) :
    k0_pay4 a (ix4 b ⟨n.val * 128 + k.val, by omega⟩ h d) = ((code (f n) k d : ℝ) : EReal) := by
  rw [pay4_eq, codeV_apply, pay3_apply hf, pay2_apply hf, zero_sub, ← EReal.coe_neg, ← Int.cast_neg, _root_.Attn.exp2_int, ← EReal.coe_mul,
    _root_.Attn.ofBits_448, _root_.Attn.ofBits_m448, _root_.Attn.clip_coe, code]

/-- The scales of the head. -/
theorem pay5_apply (hf : Head a b h f) (n : Fin 16) : k0_pay5 a (ix3 b n h) = ((scal (f n) : ℝ) : EReal) := by
  rw [pay5_eq, scaleV_apply, pay3_apply hf, _root_.Attn.exp2_int, scal]

/-- The second argument's exponents, codes and scales, and the third's, are computed as the first's. -/
theorem pay10_eq : k0_pay10 (k0_pay8 a) (k0_pay9 a) = k0_pay3 a := rfl
theorem pay11_eq : k0_pay11 (k0_pay6 a) (k0_pay8 a) (k0_pay9 a) = k0_pay4 a := rfl
theorem pay12_eq : k0_pay12 (k0_pay8 a) (k0_pay9 a) = k0_pay5 a := rfl
theorem pay16_eq : k0_pay16 (k0_pay15 a) (Scalar.ofBits .f32 0xC3E00000#32) = k0_pay4 a := rfl
theorem pay17_eq : k0_pay17 (k0_pay14 a) = k0_pay5 a := rfl

end Cert.ReferenceIdeal.Attn
-- ==== Proof.RefSoft.lean ====
/-
  The reference's attention, read at an index.
-/
module

public import proofs.«01_k».proof.Proof.RefSem
public import proofs.«01_k».proof.Proof.Gen.ReferenceIdeal.Skeleton
public import Idealize.ShloMosaic.Lib.Pointwise

@[expose] public section

noncomputable section

namespace Cert.ReferenceIdeal.Attn

open Idealize.ShloMosaic Cert.ReferenceIdeal Cert.ReferenceIdeal.Gen
open _root_.Attn (Blk scal clip code c448 hi lo pos)

variable {b : Fin 8} {h : Fin 64}
/-- The masked scores. -/
def scoreV (q : FVec Ideal S8x2048x64x128 .fp8e4m3) (qs : FVec Ideal S8x16x64 .f32) (k : FVec Ideal S8x2048x64x128 .fp8e4m3)
    (ks : FVec Ideal S8x16x64 .f32) : FVec Ideal S8x64x2048x2048 .f32 :=
  select (broadcastTo S8x64x2048x2048 (shapeCast S1x1x2048x2048 (cmpi .sle (iota .tc S2048x2048 32 [1] iota_S2048x2048_d1_w32)
      (iota .tc S2048x2048 32 [0] iota_S2048x2048_d0_w32)) shapeCasts_S2048x2048_S1x1x2048x2048)
      broadcasts_S1x1x2048x2048_S8x64x2048x2048)
    (shapeCast S8x64x2048x2048
      (mulf (shapeCast S8x64x16x128x16x128
          (matmul dot_S8x2048x64x128_S8x2048x64x128_S8x64x2048x2048_3_3_1_1_02_02 none q k (constant S8x64x2048x2048 .f32 0x00000000#32))
          shapeCasts_S8x64x2048x2048_S8x64x16x128x16x128)
        (broadcastTo S8x64x16x128x16x128 (shapeCast S8x64x16x1x16x1
          (mulf (mulf
              (broadcastTo S8x64x16x16 (shapeCast S8x64x16x1 (transpose S8x64x16 [0, 2, 1] qs transposes_S8x16x64_p0_2_1_S8x64x16)
                shapeCasts_S8x64x16_S8x64x16x1) broadcasts_S8x64x16x1_S8x64x16x16)
              (broadcastTo S8x64x16x16 (shapeCast S8x64x1x16 (transpose S8x64x16 [0, 2, 1] ks transposes_S8x16x64_p0_2_1_S8x64x16)
                shapeCasts_S8x64x16_S8x64x1x16) broadcasts_S8x64x1x16_S8x64x16x16))
            (broadcast S8x64x16x16 (Named.named κ "sm_scale" 0x3DB504F3#32)))
          shapeCasts_S8x64x16x16_S8x64x16x1x16x1) broadcasts_S8x64x16x1x16x1_S8x64x16x128x16x128))
      shapeCasts_S8x64x16x128x16x128_S8x64x2048x2048)
    (broadcast S8x64x2048x2048 (Scalar.ofBits .f32 0xFF800000#32))

/-- The weights of the scores. -/
def weightV (s : FVec Ideal S8x64x2048x2048 .f32) : FVec Ideal S8x64x2048x2048 .f32 :=
  exp (subf s (broadcastTo S8x64x2048x2048 (shapeCast S8x64x2048x1
    (multiReduction .maximumf [3] S8x64x2048 s 0xFF800000#32 reduces_S8x64x2048x2048_S8x64x2048 (.inl rfl) rfl)
    shapeCasts_S8x64x2048_S8x64x2048x1) broadcasts_S8x64x2048x1_S8x64x2048x2048))

theorem pay21_eq (q : FVec Ideal S8x2048x64x128 .fp8e4m3) (qs : FVec Ideal S8x16x64 .f32) (k : FVec Ideal S8x2048x64x128 .fp8e4m3)
    (ks : FVec Ideal S8x16x64 .f32) : k0_pay21 q qs k ks = weightV (scoreV q qs k ks) := rfl

/-- The weights, block by block. -/
def blocksV (p : FVec Ideal S8x64x2048x2048 .f32) : FVec Ideal S8x64x2048x16x128 .f32 :=
  shapeCast S8x64x2048x16x128 p shapeCasts_S8x64x2048x2048_S8x64x2048x16x128

/-- The largest weights of the blocks. -/
def maxP (p : FVec Ideal S8x64x2048x16x128 .f32) : FVec Ideal S8x64x2048x16x1 .f32 :=
  shapeCast S8x64x2048x16x1 (multiReduction .maximumf [4] S8x64x2048x16
      (absf p) 0xFF800000#32
      reduces_S8x64x2048x16x128_S8x64x2048x16 (.inl rfl) rfl) shapeCasts_S8x64x2048x16_S8x64x2048x16x1

/-- The largest weights of the blocks, over 448. -/
def topP (p : FVec Ideal S8x64x2048x16x128 .f32) : FVec Ideal S8x64x2048x16x1 .f32 :=
  mulf (maxP p) (broadcast S8x64x2048x16x1 (Scalar.ofBits .f32 0x3B124925#32))

/-- The exponents. -/
def expoP (y : FVec Ideal S8x64x2048x16x1 .f32) : FVec Ideal S8x64x2048x16x1 .f32 :=
  select (cmpf .olt y (broadcast S8x64x2048x16x1 (Scalar.ofBits .f32 0x00800000#32)))
    (broadcast S8x64x2048x16x1 (Scalar.ofBits .f32 0x00000000#32))
    (addf (floor (divf (log y) (broadcast S8x64x2048x16x1 (Named.named κ "ln2" 0x3F317218#32))))
      (broadcast S8x64x2048x16x1 (Scalar.ofBits .f32 0x3F800000#32)))

/-- The codes of the weights. -/
def codeP (p : FVec Ideal S8x64x2048x16x128 .f32) (e : FVec Ideal S8x64x2048x16x1 .f32) : FVec Ideal S8x64x2048x16x128 .fp8e4m3 :=
  truncf .fp8e4m3 (minimumf (broadcast S8x64x2048x16x128 (Scalar.ofBits .f32 0x43E00000#32))
    (maximumf (broadcast S8x64x2048x16x128 (Scalar.ofBits .f32 0xC3E00000#32))
      (mulf p
        (broadcastTo S8x64x2048x16x128 (exp2 (subf (broadcast S8x64x2048x16x1 (Scalar.ofBits .f32 0x00000000#32)) e))
          broadcasts_S8x64x2048x16x1_S8x64x2048x16x128)))) bitsLt_fp8e4m3_f32

/-- The blocks' parts of the outputs. -/
def partV (v : FVec Ideal S8x2048x64x128 .fp8e4m3) (vs : FVec Ideal S8x16x64 .f32) (c : FVec Ideal S8x64x2048x16x128 .fp8e4m3)
    (e : FVec Ideal S8x64x2048x16x1 .f32) : FVec Ideal S8x64x2048x16x128 .f32 :=
  mulf (transpose S8x64x2048x16x128 [0, 1, 4, 2, 3]
      (matmul dot_S8x16x128x64x128_S8x64x2048x16x128_S8x64x16x128x2048_2_4_4_2_031_013 none
        (shapeCast S8x16x128x64x128 v shapeCasts_S8x2048x64x128_S8x16x128x64x128) c
        (constant S8x64x16x128x2048 .f32 0x00000000#32)) transposes_S8x64x16x128x2048_p0_1_4_2_3_S8x64x2048x16x128)
    (broadcastTo S8x64x2048x16x128
      (mulf (exp2 e) (broadcastTo S8x64x2048x16x1 (shapeCast S8x64x1x16x1
        (transpose S8x64x16 [0, 2, 1] vs transposes_S8x16x64_p0_2_1_S8x64x16) shapeCasts_S8x64x16_S8x64x1x16x1)
        broadcasts_S8x64x1x16x1_S8x64x2048x16x1)) broadcasts_S8x64x2048x16x1_S8x64x2048x16x128)

/-- The outputs, from the parts and the sums of the weights. -/
def outV (t : FVec Ideal S8x64x2048x16x128 .f32) (l : FVec Ideal S8x64x2048 .f32) : FVec Ideal S8x2048x8192 .bf16 :=
  truncf .bf16 (shapeCast S8x2048x8192 (transpose S8x2048x64x128 [0, 2, 1, 3]
    (divf (multiReduction .add [3] S8x64x2048x128 t 0x00000000#32 reduces_S8x64x2048x16x128_S8x64x2048x128 (.inl rfl) rfl)
      (broadcastTo S8x64x2048x128 (shapeCast S8x64x2048x1 l shapeCasts_S8x64x2048_S8x64x2048x1) broadcasts_S8x64x2048x1_S8x64x2048x128))
    transposes_S8x64x2048x128_p0_2_1_3_S8x2048x64x128) shapeCasts_S8x2048x64x128_S8x2048x8192) bitsLt_bf16_f32

theorem pay23_eq (v : FVec Ideal S8x2048x64x128 .fp8e4m3) (vs : FVec Ideal S8x16x64 .f32) (p : FVec Ideal S8x64x2048x2048 .f32)
    (l : FVec Ideal S8x64x2048 .f32) : k0_pay23 v vs p l = outV (partV v vs (codeP (blocksV p) (expoP (topP (blocksV p)))) (expoP (topP (blocksV p)))) l := rfl

theorem blocks_apply (p : FVec Ideal S8x64x2048x2048 .f32) (s : Fin 2048) (n : Fin 16) (k : Fin 128) :
    blocksV p (ix5 b h s n k) = p (ix4 b h s (pos n k)) := by
  unfold blocksV shapeCast
  show p _ = p _
  congr 1
  refine Shape.reshapeEquiv_eq_of_rowMajor _ ?_
  rw [Shape.rowMajor_val_four, Shape.rowMajor_val_five]
  show ((b.val * 64 + h.val) * 2048 + s.val) * 2048 + (n.val * 128 + k.val) = (((b.val * 64 + h.val) * 2048 + s.val) * 16 + n.val) * 128 + k.val
  omega

theorem sle_words {a b : ℕ} (ha : a < 2 ^ 31) (hb : b < 2 ^ 31) :
    IntOp.cmpi .sle (BitVec.ofNat 32 a) (BitVec.ofNat 32 b) = BitVec.ofBool (decide (a ≤ b)) := by
  have h : ∀ c, c < 2 ^ 31 → (BitVec.ofNat 32 c).toInt = c := fun c hc => by
    have hn : (BitVec.ofNat 32 c).toNat = c := by rw [BitVec.toNat_ofNat]; omega
    rw [BitVec.toInt_eq_toNat_of_lt (by rw [hn]; omega), hn]
  show BitVec.ofBool ((BitVec.ofNat 32 a).sle (BitVec.ofNat 32 b)) = _
  rw [BitVec.sle_eq_decide, h a ha, h b hb]
  congr 1
  simp

theorem scoreV_apply (q : FVec Ideal S8x2048x64x128 .fp8e4m3) (qs : FVec Ideal S8x16x64 .f32) (k : FVec Ideal S8x2048x64x128 .fp8e4m3)
    (ks : FVec Ideal S8x16x64 .f32) (m n : Fin 16) (i j : Fin 128) :
    scoreV q qs k ks (ix4 b h (pos m i) (pos n j)) =
      Scalar.select (IntOp.cmpi .sle (BitVec.ofNat 32 (n.val * 128 + j.val)) (BitVec.ofNat 32 (m.val * 128 + i.val)))
        ((∑ d, (q (ix4 b (pos m i) h d) : EReal) * (k (ix4 b (pos n j) h d) : EReal)) *
          ((qs (ix3 b m h) : EReal) * (ks (ix3 b n h) : EReal) * (Named.named κ "sm_scale" 0x3DB504F3#32 : Ideal .f32)))
        (Ideal.ofBits .f32 0xFF800000#32) := by
  unfold pos
  pointwise [scoreV]

theorem weightV_apply (s : FVec Ideal S8x64x2048x2048 .f32) (x y : Fin 2048) :
    weightV s (ix4 b h x y) = Ideal.exp (s (ix4 b h x y) -
      Finset.fold max (Ideal.ofBits .f32 0xFF800000#32) (fun t => s (ix4 b h x t)) Finset.univ) := by
  pointwise [weightV]

/-- The sums of the weights. -/
def sumsV (p : FVec Ideal S8x64x2048x2048 .f32) : FVec Ideal S8x64x2048 .f32 :=
  multiReduction .add [3] S8x64x2048 p 0x00000000#32 reduces_S8x64x2048x2048_S8x64x2048 (.inl rfl) rfl

theorem pay22_eq (q : FVec Ideal S8x2048x64x128 .fp8e4m3) (qs : FVec Ideal S8x16x64 .f32) (k : FVec Ideal S8x2048x64x128 .fp8e4m3)
    (ks : FVec Ideal S8x16x64 .f32) : k0_pay22 q qs k ks = sumsV (weightV (scoreV q qs k ks)) := rfl

theorem sumsV_apply (p : FVec Ideal S8x64x2048x2048 .f32) (x : Fin 2048) : sumsV p (ix3 b h x) = ∑ t, p (ix4 b h x t) := by
  pointwise [sumsV]

theorem maxP_apply (p : FVec Ideal S8x64x2048x16x128 .f32) (s : Fin 2048) (n : Fin 16) :
    maxP p (ix5 b h s n 0) = Finset.fold max (Ideal.ofBits .f32 0xFF800000#32)
      (fun k => FloatOps.absf (F := Ideal) (φ := .f32) (p (ix5 b h s n k))) Finset.univ := by
  unfold maxP
  pointwise []

theorem over_apply (y : FVec Ideal S8x64x2048x16x1 .f32) (s : Fin 2048) (n : Fin 16) :
    mulf y (broadcast S8x64x2048x16x1 (Scalar.ofBits .f32 0x3B124925#32)) (ix5 b h s n 0) = y (ix5 b h s n 0) * Ideal.ofBits .f32 0x3B124925#32 := by
  pointwise []

theorem topP_apply (p : FVec Ideal S8x64x2048x16x128 .f32) (s : Fin 2048) (n : Fin 16) :
    topP p (ix5 b h s n 0) = maxP p (ix5 b h s n 0) * Ideal.ofBits .f32 0x3B124925#32 :=
  over_apply (maxP p) s n

theorem expoP_apply (y : FVec Ideal S8x64x2048x16x1 .f32) (s : Fin 2048) (n : Fin 16) :
    expoP y (ix5 b h s n 0) = _root_.Attn.expLog (y (ix5 b h s n 0)) := by
  pointwise [expoP, _root_.Attn.expLog]
  rw [show (Named.named κ "ln2" 0x3F317218#32 : Ideal .f32) = ((Real.log 2 : ℝ) : EReal) from
    IdealRules.named_const.ideal_named_scalar _ _ _ _ rfl]

theorem codeP_apply (p : FVec Ideal S8x64x2048x16x128 .f32) (e : FVec Ideal S8x64x2048x16x1 .f32) (s : Fin 2048) (n : Fin 16) (k : Fin 128) :
    codeP p e (ix5 b h s n k) = min (Ideal.ofBits .f32 0x43E00000#32) (max (Ideal.ofBits .f32 0xC3E00000#32)
      (p (ix5 b h s n k) * Ideal.exp2 (0 - e (ix5 b h s n 0)))) := by
  pointwise [codeP]
  rfl

theorem partV_apply (v : FVec Ideal S8x2048x64x128 .fp8e4m3) (vs : FVec Ideal S8x16x64 .f32) (c : FVec Ideal S8x64x2048x16x128 .fp8e4m3)
    (e : FVec Ideal S8x64x2048x16x1 .f32) (s : Fin 2048) (n : Fin 16) (d : Fin 128) :
    partV v vs c e (ix5 b h s n d) =
      (∑ k, v (ix4 b (pos n k) h d) * c (ix5 b h s n k)) * (Ideal.exp2 (e (ix5 b h s n 0)) * vs (ix3 b n h)) := by
  unfold pos
  pointwise [partV]
  rfl

theorem outV_apply (t : FVec Ideal S8x64x2048x16x128 .f32) (l : FVec Ideal S8x64x2048 .f32) (s : Fin 2048) (d : Fin 128) :
    outV t l (ix3 b s ⟨h.val * 128 + d.val, by omega⟩) = Ideal.div (∑ n, t (ix5 b h s n d)) (l (ix3 b h s)) := by
  pointwise [outV]

/-! ## The readings -/

/-- The codes `c` and the scales `w` of the head `(b, h)` are those of the blocks `f`. -/
def Quant (c : FVec Ideal S8x2048x64x128 .fp8e4m3) (w : FVec Ideal S8x16x64 .f32) (b : Fin 8) (h : Fin 64) (f : Fin 16 → Blk) : Prop :=
  (∀ (n : Fin 16) (k d : Fin 128), c (ix4 b (pos n k) h d) = ((code (f n) k d : ℝ) : EReal))
    ∧ ∀ n : Fin 16, w (ix3 b n h) = ((scal (f n) : ℝ) : EReal)

variable {q k v : FVec Ideal S8x2048x64x128 .fp8e4m3} {qs ks vs : FVec Ideal S8x16x64 .f32} {X K V : Fin 16 → Blk}

/-- The masked scores of the head. -/
theorem score_read (hq : Quant q qs b h X) (hk : Quant k ks b h K) (s : Fin 2048) (n : Fin 16) (j : Fin 128) :
    scoreV q qs k ks (ix4 b h s (pos n j)) = _root_.Attn.uE X K n j s := by
  refine (congrArg (fun t => scoreV q qs k ks (ix4 b h t (pos n j))) (_root_.Attn.pos_hi_lo s).symm).trans ?_
  refine (scoreV_apply q qs k ks (hi s) n (lo s) j).trans ?_
  rw [sle_words (by omega) (by omega), show (Named.named κ "sm_scale" 0x3DB504F3#32 : Ideal .f32) = (((Real.sqrt 128)⁻¹ : ℝ) : EReal) from
    IdealRules.named_const.ideal_named_scalar _ _ _ _ rfl, hq.2, hk.2, _root_.Attn.ofBits_bot]
  simp only [hq.1, hk.1, ← EReal.coe_mul, ← _root_.Attn.coe_sum]
  have hs : (hi s).val * 128 + (lo s).val = s.val := congrArg Fin.val (_root_.Attn.pos_hi_lo s)
  rw [hs]
  by_cases ho : _root_.Attn.ok n j s
  · rw [_root_.Attn.uE_eq X K n j s ho, decide_eq_true (show n.val * 128 + j.val ≤ s.val by unfold _root_.Attn.ok at ho; omega)]
    rfl
  · rw [_root_.Attn.uE, if_neg ho, decide_eq_false (show ¬(n.val * 128 + j.val ≤ s.val) by unfold _root_.Attn.ok at ho; omega)]
    rfl

/-- The weights of the head. -/
theorem weight_read (hq : Quant q qs b h X) (hk : Quant k ks b h K) (s : Fin 2048) (n : Fin 16) (j : Fin 128) :
    weightV (scoreV q qs k ks) (ix4 b h s (pos n j)) = ((_root_.Attn.P X K n j s : ℝ) : EReal) := by
  rw [weightV_apply, score_read hq hk, _root_.Attn.ofBits_bot, _root_.Attn.fold_uE X K s _ (score_read hq hk s), _root_.Attn.exp_uE]

/-- The sums of the weights of the head. -/
theorem sums_read (hq : Quant q qs b h X) (hk : Quant k ks b h K) (s : Fin 2048) :
    sumsV (weightV (scoreV q qs k ks)) (ix3 b h s) = ((_root_.Attn.L X K s : ℝ) : EReal) := by
  rw [sumsV_apply]
  have h1 : ∀ t, weightV (scoreV q qs k ks) (ix4 b h s t) = ((_root_.Attn.P X K (hi t) (lo t) s : ℝ) : EReal) := fun t =>
    (congrArg (fun t => weightV (scoreV q qs k ks) (ix4 b h s t)) (_root_.Attn.pos_hi_lo t).symm).trans (weight_read hq hk s _ _)
  rw [Finset.sum_congr rfl fun t _ => h1 t, ← _root_.Attn.coe_sum, _root_.Attn.sum_pos]
  simp only [_root_.Attn.hi_pos, _root_.Attn.lo_pos]
  rfl

/-- The exponents of the weights. -/
theorem expo_read {p : FVec Ideal S8x64x2048x16x128 .f32} {s : Fin 2048} {n : Fin 16}
    (hp : ∀ j, p (ix5 b h s n j) = ((_root_.Attn.P X K n j s : ℝ) : EReal)) :
    expoP (topP p) (ix5 b h s n 0) = ((_root_.Attn.eP X K n s : ℝ) : EReal) := by
  rw [expoP_apply, topP_apply, maxP_apply, _root_.Attn.ofBits_bot]
  have h1 : ∀ j, FloatOps.absf (F := Ideal) (φ := .f32) (p (ix5 b h s n j)) = ((_root_.Attn.P X K n j s : ℝ) : EReal) := fun j => by
    show max (p (ix5 b h s n j)) (-(p (ix5 b h s n j))) = _
    rw [hp, ← EReal.coe_neg, ← EReal.coe_strictMono.monotone.map_max, ← abs_eq_max_neg, abs_of_nonneg (_root_.Attn.P_nonneg X K n j s)]
  rw [_root_.Attn.fold_max_coe h1 bot_le, _root_.Attn.ofBits_c448, ← EReal.coe_mul, _root_.Attn.expLog_eq]
  rfl

/-- The outputs of the head. -/
theorem out_read (hq : Quant q qs b h X) (hk : Quant k ks b h K) (hv : Quant v vs b h V) (s : Fin 2048) (d : Fin 128) :
    k0_pay23 v vs (k0_pay21 q qs k ks) (k0_pay22 q qs k ks) (ix3 b s ⟨h.val * 128 + d.val, by omega⟩) = _root_.Attn.Y X K V s d := by
  rw [pay22_eq, pay21_eq, pay23_eq, outV_apply, sums_read hq hk, _root_.Attn.Y]
  have hp : ∀ n j, blocksV (weightV (scoreV q qs k ks)) (ix5 b h s n j) = ((_root_.Attn.P X K n j s : ℝ) : EReal) := fun n j => by
    rw [blocks_apply, weight_read hq hk]
  generalize blocksV (weightV (scoreV q qs k ks)) = p at hp
  congr 1
  rw [_root_.Attn.coe_sum]
  refine Finset.sum_congr rfl fun n _ => ?_
  have he := expo_read (hp n)
  have hc : ∀ j, codeP p (expoP (topP p)) (ix5 b h s n j) = ((clip (_root_.Attn.P X K n j s * 2 ^ (-_root_.Attn.eP X K n s)) : ℝ) : EReal) := fun j => by
    rw [codeP_apply, he, hp, zero_sub, ← EReal.coe_neg, ← Int.cast_neg, _root_.Attn.exp2_int, ← EReal.coe_mul,
      _root_.Attn.ofBits_448, _root_.Attn.ofBits_m448, _root_.Attn.clip_coe]
  rw [partV_apply, he, hv.2, _root_.Attn.exp2_int]
  simp only [hc, hv.1, ← EReal.coe_mul, ← _root_.Attn.coe_sum]
  rfl

end Cert.ReferenceIdeal.Attn
-- ==== Proof.RefValue.lean ====
/-
  The reference's five result arrays.
-/
module

public import proofs.«01_k».proof.Proof.RefQuant
public import proofs.«01_k».proof.Proof.RefSoft
public import proofs.«01_k».proof.Proof.Target
public import proofs.«01_k».proof.Proof.Gen.ReferenceIdeal.Value

@[expose] public section

noncomputable section

namespace Cert.ReferenceIdeal.Attn

open Idealize.ShloMosaic Cert.ReferenceIdeal Cert.ReferenceIdeal.Gen Cert.ReferenceIdeal.Value
open _root_.Attn (Blk scal scales code hi lo pos col hd ln pb ph headF FiniteArr GY GC GS)

variable {a a0 a1 a2 : Vec Ideal S8x2048x8192 .bf16}

/-- A head of an array of finite numbers. -/
theorem head_of (h : FiniteArr a) (b : Fin 8) (e : Fin 64) : Head a b e (headF a b e) :=
  ⟨fun _ _ _ => (h _).1, fun _ _ _ => (h _).2⟩

/-- The codes and the scales of a head of an array of finite numbers. -/
theorem quant_of (h : FiniteArr a) (b : Fin 8) (e : Fin 64) : Quant (k0_pay4 a) (k0_pay5 a) b e (headF a b e) :=
  ⟨fun n k d => pay4_apply (head_of h b e) n k d, fun n => pay5_apply (head_of h b e) n⟩

/-- A load of a whole array is the array. -/
theorem ld_whole (x : Vec Ideal S8x2048x8192 .bf16) : View.ld x r0_0 = x := by
  funext j
  show x (r0_0.emb j) = x j
  congr 1
  funext t
  apply Fin.ext
  match t with
  | ⟨0, _⟩ => show 0 + 1 * (j 0).val = (j 0).val; omega
  | ⟨1, _⟩ => show 0 + 1 * (j 1).val = (j 1).val; omega
  | ⟨2, _⟩ => show 0 + 1 * (j 2).val = (j 2).val; omega

theorem pay25_eq : k0_pay25 a0 a1 a2 = k0_pay4 a0 := by unfold k0_pay25; rw [ld_whole]
theorem pay26_eq : k0_pay26 a0 a1 a2 = k0_pay5 a0 := by unfold k0_pay26; rw [ld_whole]
theorem pay29_eq : k0_pay29 a0 a1 a2 = k0_pay4 a1 := by unfold k0_pay29 k0_pay27 k0_pay28; rw [ld_whole, pay11_eq]
theorem pay30_eq : k0_pay30 a0 a1 a2 = k0_pay5 a1 := by unfold k0_pay30 k0_pay27 k0_pay28; rw [ld_whole, pay12_eq]
theorem pay31_eq : k0_pay31 a0 a1 a2 = k0_pay15 a2 := by unfold k0_pay31; rw [ld_whole]
theorem pay32_eq : k0_pay32 a0 a1 a2 = k0_pay5 a2 := by unfold k0_pay32; rw [ld_whole, pay17_eq]

/-- An index of an array by its head and its place in it. -/
theorem idx_eq (i : S8x2048x8192.Idx) : ix3 (i 0) (i 1) (col (hd (i 2)) (ln (i 2))) = i := by
  funext t
  match t with
  | 0 => rfl
  | 1 => rfl
  | 2 => exact _root_.Attn.col_hd_ln (i 2)

/-- The codes laid out as the argument. -/
theorem flat_apply (c : FVec Ideal S8x2048x64x128 .fp8e4m3) (b : Fin 8) (s : Fin 2048) (h : Fin 64) (d : Fin 128) :
    shapeCast S8x2048x8192 c shapeCasts_S8x2048x64x128_S8x2048x8192 (ix3 b s (col h d)) = c (ix4 b s h d) := by
  unfold col
  pointwise []

theorem codes_eq (h : FiniteArr a) : shapeCast S8x2048x8192 (k0_pay4 a) shapeCasts_S8x2048x64x128_S8x2048x8192 = GC a := by
  funext i
  refine (congrArg _ (idx_eq i).symm).trans ?_
  refine (flat_apply _ _ _ _ _).trans ?_
  refine (congrArg (fun s => k0_pay4 a (ix4 (i 0) s (hd (i 2)) (ln (i 2)))) (_root_.Attn.pos_hi_lo (i 1)).symm).trans ?_
  exact (quant_of h (i 0) (hd (i 2))).1 (hi (i 1)) (lo (i 1)) (ln (i 2))

/-- The second result: the first argument's codes. -/
theorem G4_eq (h0 : FiniteArr a0) : G4 a0 a1 a2 = GC a0 := by
  unfold G4
  rw [pay25_eq]
  exact codes_eq h0

/-- The third result: the second argument's codes. -/
theorem G5_eq (h1 : FiniteArr a1) : G5 a0 a1 a2 = GC a1 := by
  unfold G5
  rw [pay29_eq]
  exact codes_eq h1

/-- The fourth result: the third argument's codes. -/
theorem G6_eq (h2 : FiniteArr a2) : G6 a0 a1 a2 = GC a2 := by
  unfold G6
  rw [pay31_eq]
  unfold k0_pay20
  rw [pay16_eq]
  exact codes_eq h2

/-- The first result: the attention. -/
theorem G3_eq (h0 : FiniteArr a0) (h1 : FiniteArr a1) (h2 : FiniteArr a2) : G3 a0 a1 a2 = GY a0 a1 a2 := by
  unfold G3
  rw [pay25_eq, pay26_eq, pay29_eq, pay30_eq, pay31_eq, pay32_eq, pay16_eq]
  funext i
  refine (congrArg _ (idx_eq i).symm).trans ?_
  exact out_read (quant_of h0 (i 0) (hd (i 2))) (quant_of h1 (i 0) (hd (i 2))) (quant_of h2 (i 0) (hd (i 2))) (i 1) (ln (i 2))

/-- A row of scales for each batch and head. -/
def rowsV (w : FVec Ideal S8x16x64 .f32) : FVec Ideal S512x16 .f32 :=
  shapeCast S512x16 (transpose S8x64x16 [0, 2, 1] w transposes_S8x16x64_p0_2_1_S8x64x16) shapeCasts_S8x64x16_S512x16

theorem rowsV_apply (w : FVec Ideal S8x16x64 .f32) (t : Fin 512) (n : Fin 16) : rowsV w (ix2 t n) = w (ix3 (pb t) n (ph t)) := by
  unfold pb ph
  pointwise [rowsV]

/-- The three arguments' rows of scales side by side, in every lane. -/
def lanesV (w0 w1 w2 : FVec Ideal S512x16 .f32) : FVec Ideal S512x48x128 .f32 :=
  broadcastTo S512x48x128 (shapeCast S512x48x1 (shapeCast S512x48x1
    (concatenate S512x48 1 [⟨S512x16, w0⟩, ⟨S512x16, w1⟩, ⟨S512x16, w2⟩] concatenates_S512x16_S512x16_S512x16_S512x48_d1)
    shapeCasts_S512x48_S512x48x1) shapeCasts_S512x48x1_S512x48x1) broadcasts_S512x48x1_S512x48x128

theorem pay1_eq (w0 w1 w2 : FVec Ideal S8x16x64 .f32) : k0_pay1 w1 w2 (k0_pay24 w0) = lanesV (rowsV w0) (rowsV w1) (rowsV w2) := rfl

theorem lanesV_apply (w0 w1 w2 : FVec Ideal S512x16 .f32) (t : Fin 512) (i : Fin 48) (l : Fin 128) :
    lanesV w0 w1 w2 (ix3 t i l) = if i.val < 16 then w0 (ix2 t ⟨i.val % 16, by omega⟩) else if i.val < 32 then w1 (ix2 t ⟨i.val % 16, by omega⟩)
      else w2 (ix2 t ⟨i.val % 16, by omega⟩) := by
  pointwise [lanesV]
  by_cases h1 : i.val < 16
  · rw [dif_pos h1, if_pos h1]
    exact congrArg (fun n => w0 (ix2 t n)) (Fin.ext (show i.val = i.val % 16 by omega))
  · rw [dif_neg h1, if_neg h1]
    by_cases h2 : i.val < 32
    · rw [dif_pos (show i.val - 16 < 16 by omega), if_pos h2]
      exact congrArg (fun n => w1 (ix2 t n)) (Fin.ext (show i.val - 16 = i.val % 16 by omega))
    · rw [dif_neg (show ¬(i.val - 16 < 16) by omega), if_neg h2]
      exact congrArg (fun n => w2 (ix2 t n)) (Fin.ext (show i.val - 16 - 16 = i.val % 16 by omega))

theorem scales_apply (h0 : FiniteArr a0) (h1 : FiniteArr a1) (h2 : FiniteArr a2) (t : Fin 512) (i : Fin 48) (l : Fin 128) :
    lanesV (rowsV (k0_pay5 a0)) (rowsV (k0_pay5 a1)) (rowsV (k0_pay5 a2)) (ix3 t i l) =
      ((scales (headF a0 (pb t) (ph t)) (headF a1 (pb t) (ph t)) (headF a2 (pb t) (ph t)) i : ℝ) : EReal) := by
  rw [lanesV_apply, rowsV_apply, rowsV_apply, rowsV_apply, (quant_of h0 _ _).2, (quant_of h1 _ _).2, (quant_of h2 _ _).2]
  unfold scales
  split
  · rfl
  · split <;> rfl

/-- The fifth result: the scales. -/
theorem G7_eq (h0 : FiniteArr a0) (h1 : FiniteArr a1) (h2 : FiniteArr a2) : G7 a0 a1 a2 = GS a0 a1 a2 := by
  unfold G7
  rw [pay26_eq, pay30_eq, pay32_eq, pay1_eq]
  funext i
  have hi : (ix3 (i 0) (i 1) (i 2) : S512x48x128.Idx) = i := by
    funext t
    match t with
    | 0 => rfl
    | 1 => rfl
    | 2 => rfl
  exact (congrArg _ hi.symm).trans (scales_apply h0 h1 h2 (i 0) (i 1) (i 2))

end Cert.ReferenceIdeal.Attn
-- ==== Proof.Precond.lean ====
/-
  The precondition read back: an argument that passes the finiteness test is an array of real numbers below `2^128`.
-/
module

public import proofs.«01_k».proof.Defs
public import proofs.«01_k».proof.Proof.Target
public import proofs.«01_k».proof.Proof.Gen.Pre_finite_arguments
public import Idealize.ShloMosaic.Lib.ReduceAll
public import Idealize.ShloMosaic.Lib.IdealHost

@[expose] public section

noncomputable section

namespace Cert.Precond

open Idealize.ShloMosaic Cert.Pre_finite_arguments Cert.Pre_finite_arguments.Gen
open _root_.Attn (FiniteArr)

/-- The greatest finite bf16. -/
theorem maxFinite : Ideal.ofBits .f32 0x7F7F0000#32 = ((255 * 2 ^ (120 : ℕ) : ℝ) : EReal) := by
  simp [Ideal.ofBits, Ideal.ieee, -EReal.coe_mul, -EReal.coe_pow]
  norm_num

/-- An extended real whose absolute value is at most the greatest finite bf16 is a real number below `2^128`. -/
theorem real_of_le (x : EReal) (h : max x (-x) ≤ Ideal.ofBits .f32 0x7F7F0000#32) :
    x = ((EReal.toReal x : ℝ) : EReal) ∧ |EReal.toReal x| < 2 ^ (128 : ℤ) := by
  rw [maxFinite] at h
  obtain ⟨h1, h2⟩ := max_le_iff.mp h
  have ht : x ≠ ⊤ := fun e => by
    rw [e] at h1
    exact absurd (top_le_iff.mp h1) (EReal.coe_ne_top _)
  have hb : x ≠ ⊥ := fun e => by
    rw [e, EReal.neg_bot] at h2
    exact absurd (top_le_iff.mp h2) (EReal.coe_ne_top _)
  have hx : x = ((EReal.toReal x : ℝ) : EReal) := (EReal.coe_toReal ht hb).symm
  refine ⟨hx, ?_⟩
  rw [hx] at h1 h2
  rw [← EReal.coe_neg] at h2
  have r1 := EReal.coe_le_coe_iff.mp h1
  have r2 := EReal.coe_le_coe_iff.mp h2
  have hlt : (255 * 2 ^ (120 : ℕ) : ℝ) < 2 ^ (128 : ℤ) := by norm_num
  exact lt_of_le_of_lt (abs_le'.mpr ⟨r1, r2⟩) hlt

instance : Subsingleton S_.Idx := ⟨fun a b => funext fun i => i.elim0⟩

/-- The finiteness test of one argument. -/
def test (a : FVec Ideal S8x2048x8192 .bf16) : IVec S_ 1 :=
  Host.reduce IntOp.andi (cmpf .ole (Host.absf (extf .f32 a bitsLt_bf16_f32))
    (broadcastInDim S8x2048x8192 ![] bcast_S_S8x2048x8192 (constant (F := Ideal) S_ .f32 0x7F7F0000#32)))
    (constantI S_ 1 1#1) reducesTo_S8x2048x8192_S_d0_1_2 h_S_

/-- An array that passes the test. -/
theorem finite_of_test (a : FVec Ideal S8x2048x8192 .bf16) (j : S_.Idx) (h : test a j = 1#1) : FiniteArr a := fun i => by
  have e : Ideal.cmp .ole (max (a i) (-(a i))) (Ideal.ofBits .f32 0x7F7F0000#32) = 1#1 :=
    Host.reduce_andi_all _ _ _ _ j h i
  refine real_of_le (a i) ?_
  by_contra hn
  have : Ideal.cmp .ole (max (a i) (-(a i))) (Ideal.ofBits .f32 0x7F7F0000#32) = 0#1 := by
    unfold Ideal.cmp
    simp only [hn, decide_false]
    rfl
  rw [this] at e
  exact absurd e (by decide)

theorem fn_eq (a0 a1 a2 : FVec Ideal S8x2048x8192 .bf16) :
    Cert.Pre_finite_arguments.fn (F := Ideal) a0 a1 a2 = andi (test a0) (andi (test a1) (test a2)) := rfl

/-- The precondition makes each argument an array of real numbers below `2^128`. -/
theorem finite_of_fn (a0 a1 a2 : FVec Ideal S8x2048x8192 .bf16)
    (h : Cert.Pre_finite_arguments.fn (F := Ideal) a0 a1 a2 = fun _ => 1#1) : FiniteArr a0 ∧ FiniteArr a1 ∧ FiniteArr a2 := by
  rw [fn_eq] at h
  have j : S_.Idx := fun i => i.elim0
  have e : IntOp.andi (test a0 j) (IntOp.andi (test a1 j) (test a2 j)) = 1#1 := congrFun h j
  obtain ⟨e0, e'⟩ := IntOp.andi_eq_one.mp e
  obtain ⟨e1, e2⟩ := IntOp.andi_eq_one.mp e'
  exact ⟨finite_of_test a0 j e0, finite_of_test a1 j e1, finite_of_test a2 j e2⟩

end Cert.Precond
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Pre_finite_arguments
public import proofs.«01_k».proof.Proof.KernelValue
public import proofs.«01_k».proof.Proof.RefValue
public import proofs.«01_k».proof.Proof.Precond
public import Idealize.ShloMosaic.Adequacy
public import Idealize.ShloMosaic.Init

@[expose] public section

noncomputable section

namespace Cert.Proof

open Idealize.ShloMosaic Idealize.ShloMosaic.TcCoe Idealize.SL.Sem
open _root_.Attn (GY GC GS)

/-- The kernel's constant is `1/√128 · 1/ln 2` by name. -/
theorem preserves : Cert.preserves_Kernel_KernelIdeal :=
  IdealRules.named_const.statement Cert.KernelIdeal.κ "sm_log2e" .f32 0x3E0293EE#32 _ rfl

/-- The kernel and the reference leave the same five arrays: the attention, the codes and the scales. -/
theorem algebraic : Cert.algebraic_KernelIdeal_ReferenceIdeal_pre_finite_arguments := by
  intro m ρ m' ρ' hpre hagree
  have hf := fun c => Cert.Precond.finite_of_fn _ _ _ (hpre c)
  refine ⟨fun c => GY (Cert.KernelIdeal.Attn.arg0 m c) (Cert.KernelIdeal.Attn.arg1 m c) (Cert.KernelIdeal.Attn.arg2 m c),
    fun c => GC (Cert.KernelIdeal.Attn.arg0 m c), fun c => GC (Cert.KernelIdeal.Attn.arg1 m c),
    fun c => GC (Cert.KernelIdeal.Attn.arg2 m c),
    fun c => GS (Cert.KernelIdeal.Attn.arg0 m c) (Cert.KernelIdeal.Attn.arg1 m c) (Cert.KernelIdeal.Attn.arg2 m c), ?_, ?_⟩
  · refine (θ_run Cert.KernelIdeal.defs _ _).mono (fun r h c => ?_) (Cert.KernelIdeal.Value.run_blocks (F := Ideal) m ρ)
    obtain ⟨h0, h1, h2⟩ := hf c
    obtain ⟨r3, r4, r5, r6, r7, kept⟩ := h c
    exact ⟨r3.trans (Cert.KernelIdeal.Attn.final3 m c h0 h1 h2), r4.trans (Cert.KernelIdeal.Attn.final4 m c h0),
      r5.trans (Cert.KernelIdeal.Attn.final5 m c h1), r6.trans (Cert.KernelIdeal.Attn.final6 m c h2),
      r7.trans (Cert.KernelIdeal.Attn.final7 m c h0 h1 h2), kept⟩
  · refine (θ_run Cert.ReferenceIdeal.defs _ _).mono (fun r h c => ?_) (Cert.ReferenceIdeal.Value.run (F := Ideal) m' ρ')
    obtain ⟨h0, h1, h2⟩ := hf c
    obtain ⟨a0, a1, a2⟩ := hagree c
    obtain ⟨r3, r4, r5, r6, r7, kept⟩ := h c
    refine ⟨r3.trans ?_, r4.trans ?_, r5.trans ?_, r6.trans ?_, r7.trans ?_, kept⟩
    · rw [a0, a1, a2]; exact Cert.ReferenceIdeal.Attn.G3_eq h0 h1 h2
    · rw [a0, a1, a2]; exact Cert.ReferenceIdeal.Attn.G4_eq h0
    · rw [a0, a1, a2]; exact Cert.ReferenceIdeal.Attn.G5_eq h1
    · rw [a0, a1, a2]; exact Cert.ReferenceIdeal.Attn.G6_eq h2
    · rw [a0, a1, a2]; exact Cert.ReferenceIdeal.Attn.G7_eq h0 h1 h2

/-- Every claim. -/
theorem claim : Cert.Claim :=
  ⟨Cert.Kernel.Gen.facts, Cert.KernelIdeal.Gen.facts, Cert.ReferenceIdeal.Gen.facts, Cert.Pre_finite_arguments.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, preserves, algebraic⟩

end Cert.Proof

end
